-- ==== Defs.lean ====
def Pre_Kernel [hPre_expert_in_range : Cert.Pre_expert_in_range.Facts] (m : (ℓ : Loc Cert.Kernel.nD Cert.Kernel.τ Cert.Kernel.sig) → Buf (Elt Bits) ℓ) : Prop :=
  ∀ c : Dev Cert.Kernel.nD,
    (Cert.Pre_expert_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_expert_in_range : Cert.Pre_expert_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_expert_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_expert_in_range : Cert.Pre_expert_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_expert_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def quiescent_Kernel [hKernel : Cert.Kernel.Facts] [hPre_expert_in_range : Cert.Pre_expert_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] [hPre_expert_in_range : Cert.Pre_expert_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_expert_in_range : Cert.Pre_expert_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v18_0)) (v1 : (c : Dev Cert.Kernel2Ideal.nD) → Buf (Elt Ideal) ((c.tc : Thread Cert.Kernel2Ideal.nD Cert.Kernel2Ideal.τ).loc Cert.Kernel2Ideal.main_v18_1)) (v2 : (c : Dev Cert.Kernel2Ideal.nD) → Buf (Elt Ideal) ((c.tc : Thread Cert.Kernel2Ideal.nD Cert.Kernel2Ideal.τ).loc Cert.Kernel2Ideal.main_v18_2)) (v3 : (c : Dev Cert.Kernel2Ideal.nD) → Buf (Elt Ideal) ((c.tc : Thread Cert.Kernel2Ideal.nD Cert.Kernel2Ideal.τ).loc Cert.Kernel2Ideal.main_v18_3)) (v4 : (c : Dev Cert.Kernel2Ideal.nD) → Buf (Elt Ideal) ((c.tc : Thread Cert.Kernel2Ideal.nD Cert.Kernel2Ideal.τ).loc Cert.Kernel2Ideal.main_v18_4)) (v5 : (c : Dev Cert.Kernel2Ideal.nD) → Buf (Elt Ideal) ((c.tc : Thread Cert.Kernel2Ideal.nD Cert.Kernel2Ideal.τ).loc Cert.Kernel2Ideal.main_v18_5)) (v6 : (c : Dev Cert.Kernel2Ideal.nD) → Buf (Elt Ideal) ((c.tc : Thread Cert.Kernel2Ideal.nD Cert.Kernel2Ideal.τ).loc Cert.Kernel2Ideal.main_v18_8)) (v7 : (c : Dev Cert.Kernel2Ideal.nD) → Buf (Elt Ideal) ((c.tc : Thread Cert.Kernel2Ideal.nD Cert.Kernel2Ideal.τ).loc Cert.Kernel2Ideal.main_v18_11)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v18_0) = v0 c
          ∧ r.2.mem ((c.tc : Thread Cert.Kernel2Ideal.nD Cert.Kernel2Ideal.τ).loc Cert.Kernel2Ideal.main_v18_1) = v1 c
          ∧ r.2.mem ((c.tc : Thread Cert.Kernel2Ideal.nD Cert.Kernel2Ideal.τ).loc Cert.Kernel2Ideal.main_v18_2) = v2 c
          ∧ r.2.mem ((c.tc : Thread Cert.Kernel2Ideal.nD Cert.Kernel2Ideal.τ).loc Cert.Kernel2Ideal.main_v18_3) = v3 c
          ∧ r.2.mem ((c.tc : Thread Cert.Kernel2Ideal.nD Cert.Kernel2Ideal.τ).loc Cert.Kernel2Ideal.main_v18_4) = v4 c
          ∧ r.2.mem ((c.tc : Thread Cert.Kernel2Ideal.nD Cert.Kernel2Ideal.τ).loc Cert.Kernel2Ideal.main_v18_5) = v5 c
          ∧ r.2.mem ((c.tc : Thread Cert.Kernel2Ideal.nD Cert.Kernel2Ideal.τ).loc Cert.Kernel2Ideal.main_v18_8) = v6 c
          ∧ r.2.mem ((c.tc : Thread Cert.Kernel2Ideal.nD Cert.Kernel2Ideal.τ).loc Cert.Kernel2Ideal.main_v18_11) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v35) = v1 c
          ∧ r.2.mem ((c.tc : Thread Cert.Reference2Ideal.nD Cert.Reference2Ideal.τ).loc Cert.Reference2Ideal.main_v38) = v2 c
          ∧ r.2.mem ((c.tc : Thread Cert.Reference2Ideal.nD Cert.Reference2Ideal.τ).loc Cert.Reference2Ideal.main_v41) = v3 c
          ∧ r.2.mem ((c.tc : Thread Cert.Reference2Ideal.nD Cert.Reference2Ideal.τ).loc Cert.Reference2Ideal.main_v44) = v4 c
          ∧ r.2.mem ((c.tc : Thread Cert.Reference2Ideal.nD Cert.Reference2Ideal.τ).loc Cert.Reference2Ideal.main_v47) = v5 c
          ∧ r.2.mem ((c.tc : Thread Cert.Reference2Ideal.nD Cert.Reference2Ideal.τ).loc Cert.Reference2Ideal.main_v23) = v6 c
          ∧ r.2.mem ((c.tc : Thread Cert.Reference2Ideal.nD Cert.Reference2Ideal.τ).loc Cert.Reference2Ideal.main_v29) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v5)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v5) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v30) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v6)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v29) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v20_0)) (v1 : (c : Dev Cert.Kernel4Ideal.nD) → Buf (Elt Ideal) ((c.tc : Thread Cert.Kernel4Ideal.nD Cert.Kernel4Ideal.τ).loc Cert.Kernel4Ideal.main_v20_1)) (v2 : (c : Dev Cert.Kernel4Ideal.nD) → Buf (Elt Ideal) ((c.tc : Thread Cert.Kernel4Ideal.nD Cert.Kernel4Ideal.τ).loc Cert.Kernel4Ideal.main_v20_2)) (v3 : (c : Dev Cert.Kernel4Ideal.nD) → Buf (Elt Ideal) ((c.tc : Thread Cert.Kernel4Ideal.nD Cert.Kernel4Ideal.τ).loc Cert.Kernel4Ideal.main_v20_3)) (v4 : (c : Dev Cert.Kernel4Ideal.nD) → Buf (Elt Ideal) ((c.tc : Thread Cert.Kernel4Ideal.nD Cert.Kernel4Ideal.τ).loc Cert.Kernel4Ideal.main_v20_4)) (v5 : (c : Dev Cert.Kernel4Ideal.nD) → Buf (Elt Ideal) ((c.tc : Thread Cert.Kernel4Ideal.nD Cert.Kernel4Ideal.τ).loc Cert.Kernel4Ideal.main_v20_5)) (v6 : (c : Dev Cert.Kernel4Ideal.nD) → Buf (Elt Ideal) ((c.tc : Thread Cert.Kernel4Ideal.nD Cert.Kernel4Ideal.τ).loc Cert.Kernel4Ideal.main_v20_6)) (v7 : (c : Dev Cert.Kernel4Ideal.nD) → Buf (Elt Ideal) ((c.tc : Thread Cert.Kernel4Ideal.nD Cert.Kernel4Ideal.τ).loc Cert.Kernel4Ideal.main_v20_7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v20_0) = v0 c
          ∧ r.2.mem ((c.tc : Thread Cert.Kernel4Ideal.nD Cert.Kernel4Ideal.τ).loc Cert.Kernel4Ideal.main_v20_1) = v1 c
          ∧ r.2.mem ((c.tc : Thread Cert.Kernel4Ideal.nD Cert.Kernel4Ideal.τ).loc Cert.Kernel4Ideal.main_v20_2) = v2 c
          ∧ r.2.mem ((c.tc : Thread Cert.Kernel4Ideal.nD Cert.Kernel4Ideal.τ).loc Cert.Kernel4Ideal.main_v20_3) = v3 c
          ∧ r.2.mem ((c.tc : Thread Cert.Kernel4Ideal.nD Cert.Kernel4Ideal.τ).loc Cert.Kernel4Ideal.main_v20_4) = v4 c
          ∧ r.2.mem ((c.tc : Thread Cert.Kernel4Ideal.nD Cert.Kernel4Ideal.τ).loc Cert.Kernel4Ideal.main_v20_5) = v5 c
          ∧ r.2.mem ((c.tc : Thread Cert.Kernel4Ideal.nD Cert.Kernel4Ideal.τ).loc Cert.Kernel4Ideal.main_v20_6) = v6 c
          ∧ r.2.mem ((c.tc : Thread Cert.Kernel4Ideal.nD Cert.Kernel4Ideal.τ).loc Cert.Kernel4Ideal.main_v20_7) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v33) = v2 c
          ∧ r.2.mem ((c.tc : Thread Cert.Reference4Ideal.nD Cert.Reference4Ideal.τ).loc Cert.Reference4Ideal.main_v35) = v3 c
          ∧ r.2.mem ((c.tc : Thread Cert.Reference4Ideal.nD Cert.Reference4Ideal.τ).loc Cert.Reference4Ideal.main_v37) = v4 c
          ∧ r.2.mem ((c.tc : Thread Cert.Reference4Ideal.nD Cert.Reference4Ideal.τ).loc Cert.Reference4Ideal.main_v39) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_v27) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel4 : Cert.Kernel4.Facts) (hKernel4Ideal : Cert.Kernel4Ideal.Facts) (hReference4Ideal : Cert.Reference4Ideal.Facts) (hPre_expert_in_range : Cert.Pre_expert_in_range.Facts),
    quiescent_Kernel (hKernel := hKernel) (hPre_expert_in_range := hPre_expert_in_range)
    ∧ quiescent_KernelIdeal (hKernelIdeal := hKernelIdeal) (hPre_expert_in_range := hPre_expert_in_range)
    ∧ quiescent_ReferenceIdeal (hReferenceIdeal := hReferenceIdeal) (hPre_expert_in_range := hPre_expert_in_range)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel4 (hKernel4 := hKernel4)
    ∧ quiescent_Kernel4Ideal (hKernel4Ideal := hKernel4Ideal)
    ∧ quiescent_Reference4Ideal (hReference4Ideal := hReference4Ideal)
    ∧ preserves_Kernel_KernelIdeal
    ∧ algebraic_KernelIdeal_ReferenceIdeal (hKernelIdeal := hKernelIdeal) (hReferenceIdeal := hReferenceIdeal) (hPre_expert_in_range := hPre_expert_in_range)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel4_Kernel4Ideal
    ∧ algebraic_Kernel4Ideal_Reference4Ideal (hKernel4Ideal := hKernel4Ideal) (hReference4Ideal := hReference4Ideal)
-- ==== Pre_expert_in_range.lean ====
abbrev S394240x1024 : Shape := ⟨2, ![394240, 1024]⟩
abbrev S770 : Shape := ⟨1, ![770]⟩
abbrev S1 : Shape := ⟨1, ![1]⟩
abbrev S256x1024x256 : Shape := ⟨3, ![256, 1024, 256]⟩
abbrev S256x256x1024 : Shape := ⟨3, ![256, 256, 1024]⟩
abbrev S_ : Shape := ⟨0, ![]⟩

class Facts : Prop where
  bcast_S_S770 : S_.BroadcastsInDim S770 (![] : Fin 0 → Fin S770.rank)
  reducesTo_S770_S_d0 : S770.ReducesTo [0] S_
  h_S_ : 0 < S_.numel

variable [Facts]

def fn {F : FTy → Type} [FloatOps F] (main_arg0 : FVec F S394240x1024 .bf16) (main_arg1 : IVec S770 32) (main_arg2 : IVec S1 32) (main_arg3 : FVec F S256x1024x256 .f32) (main_arg4 : FVec F S256x1024x256 .f32) (main_arg5 : FVec F S256x256x1024 .f32) : IVec S_ 1 :=
  let main_c : IVec S_ 32 := constantI S_ 32 0#32
  let main_v0 : IVec S770 32 := broadcastInDim S770 ![] bcast_S_S770 main_c
  let main_v1 : IVec S770 1 := cmpi .sge main_arg1 main_v0
  let main_c_0 : IVec S_ 32 := constantI S_ 32 256#32
  let main_v2 : IVec S770 32 := broadcastInDim S770 ![] bcast_S_S770 main_c_0
  let main_v3 : IVec S770 1 := cmpi .slt main_arg1 main_v2
  let main_v4 : IVec S770 1 := andi main_v1 main_v3
  let main_c_1 : IVec S_ 1 := constantI S_ 1 1#1
  let main_v5 : IVec S_ 1 := (fun x v => Host.reduce IntOp.andi x v reducesTo_S770_S_d0 h_S_) main_v4 main_c_1
  main_v5
-- ==== Kernel.lean ====
abbrev S394240x1024 : Shape := ⟨2, ![394240, 1024]⟩
abbrev S770 : Shape := ⟨1, ![770]⟩
abbrev S1 : Shape := ⟨1, ![1]⟩
abbrev S256x1024x256 : Shape := ⟨3, ![256, 1024, 256]⟩
abbrev S256x256x1024 : Shape := ⟨3, ![256, 256, 1024]⟩
abbrev S512x1024 : Shape := ⟨2, ![512, 1024]⟩
abbrev S1x1024x256 : Shape := ⟨3, ![1, 1024, 256]⟩
abbrev S1x256x1024 : Shape := ⟨3, ![1, 256, 1024]⟩
abbrev S1024x256 : Shape := ⟨2, ![1024, 256]⟩
abbrev S256x1024 : Shape := ⟨2, ![256, 1024]⟩
abbrev S512x256 : Shape := ⟨2, ![512, 256]⟩

abbrev nBuf : Space → Nat
  | .hbm => 5
  | .vmem => 13
  | .smem => 2
  | _ => 0

abbrev bufTy : (tb : Table) → Fin (tcTables nBuf tb) → BufTy
  | .hbm, ⟨0, _⟩ => ⟨S394240x1024, .bf16⟩
  | .hbm, ⟨1, _⟩ => ⟨S256x1024x256, .f32⟩
  | .hbm, ⟨2, _⟩ => ⟨S256x1024x256, .f32⟩
  | .hbm, ⟨3, _⟩ => ⟨S256x256x1024, .f32⟩
  | .hbm, ⟨4, _⟩ => ⟨S394240x1024, .bf16⟩
  | .local _ .vmem, ⟨0, _⟩ => ⟨S512x1024, .bf16⟩
  | .local _ .vmem, ⟨1, _⟩ => ⟨S512x1024, .bf16⟩
  | .local _ .vmem, ⟨2, _⟩ => ⟨S1x1024x256, .f32⟩
  | .local _ .vmem, ⟨3, _⟩ => ⟨S1x1024x256, .f32⟩
  | .local _ .vmem, ⟨4, _⟩ => ⟨S1x1024x256, .f32⟩
  | .local _ .vmem, ⟨5, _⟩ => ⟨S1x1024x256, .f32⟩
  | .local _ .vmem, ⟨6, _⟩ => ⟨S1x256x1024, .f32⟩
  | .local _ .vmem, ⟨7, _⟩ => ⟨S1x256x1024, .f32⟩
  | .local _ .vmem, ⟨8, _⟩ => ⟨S512x1024, .bf16⟩
  | .local _ .vmem, ⟨9, _⟩ => ⟨S512x1024, .bf16⟩
  | .local _ .vmem, ⟨10, _⟩ => ⟨S1024x256, .bf16⟩
  | .local _ .vmem, ⟨11, _⟩ => ⟨S1024x256, .bf16⟩
  | .local _ .vmem, ⟨12, _⟩ => ⟨S256x1024, .bf16⟩
  | .local _ .smem, ⟨0, _⟩ => ⟨S770, .i32⟩
  | .local _ .smem, ⟨1, _⟩ => ⟨S1, .i32⟩
  | _, _ => ⟨S394240x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![770], ![false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let v9 : Index := Scalar.indexCast arg0
  ![v9.toNat]
def k0_off3 (i : grid0.Coords) : Fin 1 → Nat :=
  let arg0 : BitVec 32 := BitVec.ofNat 32 (i 0).val
  let c1_i32 : BitVec 32 := 1#32
  let v11 : BitVec 32 := Scalar.subi arg0 c1_i32
  let c0_i32_3 : BitVec 32 := 0#32
  let v12 : BitVec 32 := Scalar.maxsi v11 c0_i32_3
  let v13 : Index := Scalar.indexCast v12
  ![v13.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let v3 : BitVec 32 := Scalar.maxsi v2 c0_i32
  let c0_i32_0 : BitVec 32 := 0#32
  let c0_i32_1 : BitVec 32 := 0#32
  ![v3.toNat, c0_i32_0.toNat]

def cc0_transform_1 (k0_off1_inb : ∀ i : grid0.Coords, ∀ a, (k0_off1 i) a + S1.size a ≤ S770.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S770) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S770.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S770) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S770.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S770) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S394240x1024 : Shape := ⟨2, ![394240, 1024]⟩
abbrev S770 : Shape := ⟨1, ![770]⟩
abbrev S1 : Shape := ⟨1, ![1]⟩
abbrev S256x1024x256 : Shape := ⟨3, ![256, 1024, 256]⟩
abbrev S256x256x1024 : Shape := ⟨3, ![256, 256, 1024]⟩
abbrev S770x512x1024 : Shape := ⟨3, ![770, 512, 1024]⟩
abbrev S_ : Shape := ⟨0, ![]⟩
abbrev S770x1 : Shape := ⟨2, ![770, 1]⟩
abbrev S770x1024x256 : Shape := ⟨3, ![770, 1024, 256]⟩
abbrev S770x512x256 : Shape := ⟨3, ![770, 512, 256]⟩
abbrev S770x256x1024 : Shape := ⟨3, ![770, 256, 1024]⟩
abbrev S770x1x1 : Shape := ⟨3, ![770, 1, 1]⟩

abbrev nBuf : Space → Nat
  | .hbm => 60
  | .vmem => 0
  | .smem => 0
  | _ => 0

abbrev bufTy : (tb : Table) → Fin (tcTables nBuf tb) → BufTy
  | .hbm, ⟨0, _⟩ => ⟨S394240x1024, .bf16⟩
  | .hbm, ⟨1, _⟩ => ⟨S770, .i32⟩
  | .hbm, ⟨2, _⟩ => ⟨S1, .i32⟩
  | .hbm, ⟨3, _⟩ => ⟨S256x1024x256, .f32⟩
  | .hbm, ⟨4, _⟩ => ⟨S256x1024x256, .f32⟩
  | .hbm, ⟨5, _⟩ => ⟨S256x256x1024, .f32⟩
  | .hbm, ⟨6, _⟩ => ⟨S394240x1024, .f32⟩
  | .hbm, ⟨7, _⟩ => ⟨S770x512x1024, .f32⟩
  | .hbm, ⟨8, _⟩ => ⟨S_, .i32⟩
  | .hbm, ⟨9, _⟩ => ⟨S770, .i32⟩
  | .hbm, ⟨10, _⟩ => ⟨S770, .i1⟩
  | .hbm, ⟨11, _⟩ => ⟨S_, .i32⟩
  | .hbm, ⟨12, _⟩ => ⟨S770, .i32⟩
  | .hbm, ⟨13, _⟩ => ⟨S770, .i32⟩
  | .hbm, ⟨14, _⟩ => ⟨S770, .i32⟩
  | .hbm, ⟨15, _⟩ => ⟨S770x1, .i32⟩
  | .hbm, ⟨16, _⟩ => ⟨S770x1024x256, .f32⟩
  | .hbm, ⟨17, _⟩ => ⟨S770x512x256, .f32⟩
  | .hbm, ⟨18, _⟩ => ⟨S_, .i32⟩
  | .hbm, ⟨19, _⟩ => ⟨S770, .i32⟩
  | .hbm, ⟨20, _⟩ => ⟨S770, .i1⟩
  | .hbm, ⟨21, _⟩ => ⟨S_, .i32⟩
  | .hbm, ⟨22, _⟩ => ⟨S770, .i32⟩
  | .hbm, ⟨23, _⟩ => ⟨S770, .i32⟩
  | .hbm, ⟨24, _⟩ => ⟨S770, .i32⟩
  | .hbm, ⟨25, _⟩ => ⟨S770x1, .i32⟩
  | .hbm, ⟨26, _⟩ => ⟨S770x1024x256, .f32⟩
  | .hbm, ⟨27, _⟩ => ⟨S770x512x256, .f32⟩
  | .hbm, ⟨28, _⟩ => ⟨S770x512x256, .f32⟩
  | .hbm, ⟨29, _⟩ => ⟨S770x512x256, .f32⟩
  | .hbm, ⟨30, _⟩ => ⟨S_, .f32⟩
  | .hbm, ⟨31, _⟩ => ⟨S770x512x256, .f32⟩
  | .hbm, ⟨32, _⟩ => ⟨S770x512x256, .f32⟩
  | .hbm, ⟨33, _⟩ => ⟨S_, .f32⟩
  | .hbm, ⟨34, _⟩ => ⟨S770x512x256, .f32⟩
  | .hbm, ⟨35, _⟩ => ⟨S770x512x256, .f32⟩
  | .hbm, ⟨36, _⟩ => ⟨S770x512x256, .f32⟩
  | .hbm, ⟨37, _⟩ => ⟨S770x512x256, .f32⟩
  | .hbm, ⟨38, _⟩ => ⟨S_, .i32⟩
  | .hbm, ⟨39, _⟩ => ⟨S770, .i32⟩
  | .hbm, ⟨40, _⟩ => ⟨S770, .i1⟩
  | .hbm, ⟨41, _⟩ => ⟨S_, .i32⟩
  | .hbm, ⟨42, _⟩ => ⟨S770, .i32⟩
  | .hbm, ⟨43, _⟩ => ⟨S770, .i32⟩
  | .hbm, ⟨44, _⟩ => ⟨S770, .i32⟩
  | .hbm, ⟨45, _⟩ => ⟨S770x1, .i32⟩
  | .hbm, ⟨46, _⟩ => ⟨S770x256x1024, .f32⟩
  | .hbm, ⟨47, _⟩ => ⟨S770x512x1024, .f32⟩
  | .hbm, ⟨48, _⟩ => ⟨S770, .i32⟩
  | .hbm, ⟨49, _⟩ => ⟨S_, .i32⟩
  | .hbm, ⟨50, _⟩ => ⟨S770, .i32⟩
  | .hbm, ⟨51, _⟩ => ⟨S770, .i1⟩
  | .hbm, ⟨52, _⟩ => ⟨S770x1x1, .i1⟩
  | .hbm, ⟨53, _⟩ => ⟨S_, .f32⟩
  | .hbm, ⟨54, _⟩ => ⟨S_, .f32⟩
  | .hbm, ⟨55, _⟩ => ⟨S770x512x1024, .i1⟩
  | .hbm, ⟨56, _⟩ => ⟨S770x512x1024, .f32⟩
  | .hbm, ⟨57, _⟩ => ⟨S770x512x1024, .f32⟩
  | .hbm, ⟨58, _⟩ => ⟨S394240x1024, .f32⟩
  | .hbm, ⟨59, _⟩ => ⟨S394240x1024, .bf16⟩
  | _, _ => ⟨S394240x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_c_1 : Ref sig .tc := ⟨.hbm, 18, rfl⟩
abbrev main_v10 : Ref sig .tc := ⟨.hbm, 19, rfl⟩
abbrev main_v11 : Ref sig .tc := ⟨.hbm, 20, rfl⟩
abbrev main_c_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_call0_v0 : Ref sig .tc := ⟨.hbm, 28, rfl⟩
abbrev main_call0_v1 : Ref sig .tc := ⟨.hbm, 29, rfl⟩
abbrev main_call0_cst : Ref sig .tc := ⟨.hbm, 30, rfl⟩
abbrev main_call0_v2 : Ref sig .tc := ⟨.hbm, 31, rfl⟩
abbrev main_call0_v3 : Ref sig .tc := ⟨.hbm, 32, rfl⟩
abbrev main_call0_cst_0 : Ref sig .tc := ⟨.hbm, 33, rfl⟩
abbrev main_call0_v4 : Ref sig .tc := ⟨.hbm, 34, rfl⟩
abbrev main_call0_v5 : Ref sig .tc := ⟨.hbm, 35, rfl⟩
abbrev main_v18 : Ref sig .tc := ⟨.hbm, 36, rfl⟩
abbrev main_v19 : Ref sig .tc := ⟨.hbm, 37, rfl⟩
abbrev main_c_3 : Ref sig .tc := ⟨.hbm, 38, rfl⟩
abbrev main_v20 : Ref sig .tc := ⟨.hbm, 39, rfl⟩
abbrev main_v21 : Ref sig .tc := ⟨.hbm, 40, rfl⟩
abbrev main_c_4 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x1x1024 : Shape := ⟨3, ![4, 1, 1024]⟩
abbrev S1024 : Shape := ⟨1, ![1024]⟩
abbrev S1024x1816 : Shape := ⟨2, ![1024, 1816]⟩
abbrev S32 : Shape := ⟨1, ![32]⟩
abbrev S1024x768 : Shape := ⟨2, ![1024, 768]⟩
abbrev S1024x512 : Shape := ⟨2, ![1024, 512]⟩
abbrev S1024x1280 : Shape := ⟨2, ![1024, 1280]⟩
abbrev S_ : Shape := ⟨0, ![]⟩
abbrev S32x1 : Shape := ⟨2, ![32, 1]⟩
abbrev S1024x32 : Shape := ⟨2, ![1024, 32]⟩
abbrev S1024x1312 : Shape := ⟨2, ![1024, 1312]⟩
abbrev S1312x1024 : Shape := ⟨2, ![1312, 1024]⟩
abbrev S32768x1024 : Shape := ⟨2, ![32768, 1024]⟩
abbrev S1x1024 : Shape := ⟨2, ![1, 1024]⟩
abbrev S4x2x64x8192 : Shape := ⟨4, ![4, 2, 64, 8192]⟩
abbrev S1024x4096 : Shape := ⟨2, ![1024, 4096]⟩
abbrev S32768x512 : Shape := ⟨2, ![32768, 512]⟩
abbrev S2x32768x64 : Shape := ⟨3, ![2, 32768, 64]⟩
abbrev S512x32768 : Shape := ⟨2, ![512, 32768]⟩
abbrev S2x128x80x256 : Shape := ⟨4, ![2, 128, 80, 256]⟩
abbrev S2x256x80x128 : Shape := ⟨4, ![2, 256, 80, 128]⟩
abbrev S2x16x32768 : Shape := ⟨3, ![2, 16, 32768]⟩
abbrev S512x1024 : Shape := ⟨2, ![512, 1024]⟩
abbrev S1x1x1024 : Shape := ⟨3, ![1, 1, 1024]⟩
abbrev S1x2x64x512 : Shape := ⟨4, ![1, 2, 64, 512]⟩
abbrev S16x4096 : Shape := ⟨2, ![16, 4096]⟩
abbrev S512x512 : Shape := ⟨2, ![512, 512]⟩
abbrev S2x512x64 : Shape := ⟨3, ![2, 512, 64]⟩
abbrev S2x2x80x256 : Shape := ⟨4, ![2, 2, 80, 256]⟩
abbrev S2x4x80x128 : Shape := ⟨4, ![2, 4, 80, 128]⟩
abbrev S2x16x512 : Shape := ⟨3, ![2, 16, 512]⟩
abbrev S2x512x128 : Shape := ⟨3, ![2, 512, 128]⟩
abbrev S512 : Shape := ⟨1, ![512]⟩
abbrev S512x1 : Shape := ⟨2, ![512, 1]⟩
abbrev S512x1280 : Shape := ⟨2, ![512, 1280]⟩
abbrev S1312x512 : Shape := ⟨2, ![1312, 512]⟩
abbrev S64x512 : Shape := ⟨2, ![64, 512]⟩
abbrev S1x1x64x512 : Shape := ⟨4, ![1, 1, 64, 512]⟩
abbrev S512x128 : Shape := ⟨2, ![512, 128]⟩
abbrev S1x512x128 : Shape := ⟨3, ![1, 512, 128]⟩
abbrev S1x16x128 : Shape := ⟨3, ![1, 16, 128]⟩
abbrev S16x128 : Shape := ⟨2, ![16, 128]⟩
abbrev S512x64 : Shape := ⟨2, ![512, 64]⟩
abbrev S1x512x64 : Shape := ⟨3, ![1, 512, 64]⟩
abbrev S16x512 : Shape := ⟨2, ![16, 512]⟩
abbrev S80x512 : Shape := ⟨2, ![80, 512]⟩
abbrev S80x256 : Shape := ⟨2, ![80, 256]⟩
abbrev S1x1x80x256 : Shape := ⟨4, ![1, 1, 80, 256]⟩
abbrev S80x128 : Shape := ⟨2, ![80, 128]⟩
abbrev S1x1x80x128 : Shape := ⟨4, ![1, 1, 80, 128]⟩
abbrev S1x16x512 : Shape := ⟨3, ![1, 16, 512]⟩

abbrev nBuf : Space → Nat
  | .hbm => 43
  | .vmem => 42
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1816, .f32⟩
  | .hbm, ⟨5, _⟩ => ⟨S32, .i32⟩
  | .hbm, ⟨6, _⟩ => ⟨S32, .i1⟩
  | .hbm, ⟨7, _⟩ => ⟨S1024x768, .f32⟩
  | .hbm, ⟨8, _⟩ => ⟨S1024x512, .f32⟩
  | .hbm, ⟨9, _⟩ => ⟨S1024x1280, .f32⟩
  | .hbm, ⟨10, _⟩ => ⟨S1024x1280, .bf16⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x768, .f32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S1024x32, .f32⟩
  | .hbm, ⟨22, _⟩ => ⟨S1024x1312, .f32⟩
  | .hbm, ⟨23, _⟩ => ⟨S1312x1024, .f32⟩
  | .hbm, ⟨24, _⟩ => ⟨S1312x1024, .bf16⟩
  | .hbm, ⟨25, _⟩ => ⟨S32768x1024, .f32⟩
  | .hbm, ⟨26, _⟩ => ⟨S1x1024, .f32⟩
  | .hbm, ⟨27, _⟩ => ⟨S4x2x64x8192, .f32⟩
  | .hbm, ⟨28, _⟩ => ⟨S4x2x64x8192, .f32⟩
  | .hbm, ⟨29, _⟩ => ⟨S4x2x64x8192, .f32⟩
  | .hbm, ⟨30, _⟩ => ⟨S4x2x64x8192, .f32⟩
  | .hbm, ⟨31, _⟩ => ⟨S4x2x64x8192, .f32⟩
  | .hbm, ⟨32, _⟩ => ⟨S4x2x64x8192, .f32⟩
  | .hbm, ⟨33, _⟩ => ⟨S1024x4096, .f32⟩
  | .hbm, ⟨34, _⟩ => ⟨S1024x4096, .f32⟩
  | .hbm, ⟨35, _⟩ => ⟨S32768x512, .f32⟩
  | .hbm, ⟨36, _⟩ => ⟨S2x32768x64, .bf16⟩
  | .hbm, ⟨37, _⟩ => ⟨S2x32768x64, .bf16⟩
  | .hbm, ⟨38, _⟩ => ⟨S512x32768, .bf16⟩
  | .hbm, ⟨39, _⟩ => ⟨S2x128x80x256, .bf16⟩
  | .hbm, ⟨40, _⟩ => ⟨S2x256x80x128, .bf16⟩
  | .hbm, ⟨41, _⟩ => ⟨S2x256x80x128, .bf16⟩
  | .hbm, ⟨42, _⟩ => ⟨S2x16x32768, .f32⟩
  | .local _ .vmem, ⟨0, _⟩ => ⟨S512x1024, .f32⟩
  | .local _ .vmem, ⟨1, _⟩ => ⟨S512x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x1280, .bf16⟩
  | .local _ .vmem, ⟨8, _⟩ => ⟨S1312x1024, .bf16⟩
  | .local _ .vmem, ⟨9, _⟩ => ⟨S1x2x64x512, .f32⟩
  | .local _ .vmem, ⟨10, _⟩ => ⟨S1x2x64x512, .f32⟩
  | .local _ .vmem, ⟨11, _⟩ => ⟨S1x2x64x512, .f32⟩
  | .local _ .vmem, ⟨12, _⟩ => ⟨S1x2x64x512, .f32⟩
  | .local _ .vmem, ⟨13, _⟩ => ⟨S1x2x64x512, .f32⟩
  | .local _ .vmem, ⟨14, _⟩ => ⟨S1x2x64x512, .f32⟩
  | .local _ .vmem, ⟨15, _⟩ => ⟨S1x2x64x512, .f32⟩
  | .local _ .vmem, ⟨16, _⟩ => ⟨S1x2x64x512, .f32⟩
  | .local _ .vmem, ⟨17, _⟩ => ⟨S1x2x64x512, .f32⟩
  | .local _ .vmem, ⟨18, _⟩ => ⟨S1x2x64x512, .f32⟩
  | .local _ .vmem, ⟨19, _⟩ => ⟨S1x2x64x512, .f32⟩
  | .local _ .vmem, ⟨20, _⟩ => ⟨S1x2x64x512, .f32⟩
  | .local _ .vmem, ⟨21, _⟩ => ⟨S16x4096, .f32⟩
  | .local _ .vmem, ⟨22, _⟩ => ⟨S16x4096, .f32⟩
  | .local _ .vmem, ⟨23, _⟩ => ⟨S16x4096, .f32⟩
  | .local _ .vmem, ⟨24, _⟩ => ⟨S16x4096, .f32⟩
  | .local _ .vmem, ⟨25, _⟩ => ⟨S512x512, .f32⟩
  | .local _ .vmem, ⟨26, _⟩ => ⟨S512x512, .f32⟩
  | .local _ .vmem, ⟨27, _⟩ => ⟨S2x512x64, .bf16⟩
  | .local _ .vmem, ⟨28, _⟩ => ⟨S2x512x64, .bf16⟩
  | .local _ .vmem, ⟨29, _⟩ => ⟨S2x512x64, .bf16⟩
  | .local _ .vmem, ⟨30, _⟩ => ⟨S2x512x64, .bf16⟩
  | .local _ .vmem, ⟨31, _⟩ => ⟨S512x512, .bf16⟩
  | .local _ .vmem, ⟨32, _⟩ => ⟨S512x512, .bf16⟩
  | .local _ .vmem, ⟨33, _⟩ => ⟨S2x2x80x256, .bf16⟩
  | .local _ .vmem, ⟨34, _⟩ => ⟨S2x2x80x256, .bf16⟩
  | .local _ .vmem, ⟨35, _⟩ => ⟨S2x4x80x128, .bf16⟩
  | .local _ .vmem, ⟨36, _⟩ => ⟨S2x4x80x128, .bf16⟩
  | .local _ .vmem, ⟨37, _⟩ => ⟨S2x4x80x128, .bf16⟩
  | .local _ .vmem, ⟨38, _⟩ => ⟨S2x4x80x128, .bf16⟩
  | .local _ .vmem, ⟨39, _⟩ => ⟨S2x16x512, .f32⟩
  | .local _ .vmem, ⟨40, _⟩ => ⟨S2x16x512, .f32⟩
  | .local _ .vmem, ⟨41, _⟩ => ⟨S2x512x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18_0 : Ref sig .tc := ⟨.hbm, 27, rfl⟩
abbrev main_v18_1 : Ref sig .tc := ⟨.hbm, 28, rfl⟩
abbrev main_v18_2 : Ref sig .tc := ⟨.hbm, 29, rfl⟩
abbrev main_v18_3 : Ref sig .tc := ⟨.hbm, 30, rfl⟩
abbrev main_v18_4 : Ref sig .tc := ⟨.hbm, 31, rfl⟩
abbrev main_v18_5 : Ref sig .tc := ⟨.hbm, 32, rfl⟩
abbrev main_v18_6 : Ref sig .tc := ⟨.hbm, 33, rfl⟩
abbrev main_v18_7 : Ref sig .tc := ⟨.hbm, 34, rfl⟩
abbrev main_v18_8 : Ref sig .tc := ⟨.hbm, 35, rfl⟩
abbrev main_v18_9 : Ref sig .tc := ⟨.hbm, 36, rfl⟩
abbrev main_v18_10 : Ref sig .tc := ⟨.hbm, 37, rfl⟩
abbrev main_v18_11 : Ref sig .tc := ⟨.hbm, 38, rfl⟩
abbrev main_v18_12 : Ref sig .tc := ⟨.hbm, 39, rfl⟩
abbrev main_v18_13 : Ref sig .tc := ⟨.hbm, 40, rfl⟩
abbrev main_v18_14 : Ref sig .tc := ⟨.hbm, 41, rfl⟩
abbrev main_v18_15 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_scratch0 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_7 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_8 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_9 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_10 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_11 (i : grid0.Coords) : Fin 4 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32_4 : BitVec 32 := 16#32
  let c0_i32_5 : BitVec 32 := 0#32
  let v17 : BitVec 1 := Scalar.cmpi .eq c16_i32_4 c0_i32_5
  let c1_i32_6 : BitVec 32 := 1#32
  let v18 : BitVec 32 := Scalar.select v17 c1_i32_6 c16_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, c0_i32_11.toNat, v26.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_18 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_19 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_20 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_21 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1312x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x2x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2x64x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x2x64x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x2x64x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x2x64x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x2x64x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x4096 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x4096 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x512 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S2x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x512x64 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S2x2x80x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x4x80x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x4x80x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S2x16x512 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== Reference2Ideal.lean ====
abbrev S4x8192x1024 : Shape := ⟨3, ![4, 8192, 1024]⟩
abbrev S4x1x1024 : Shape := ⟨3, ![4, 1, 1024]⟩
abbrev S1024 : Shape := ⟨1, ![1024]⟩
abbrev S1024x1816 : Shape := ⟨2, ![1024, 1816]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x8192x1816 : Shape := ⟨3, ![4, 8192, 1816]⟩
abbrev S4x8192x768 : Shape := ⟨3, ![4, 8192, 768]⟩
abbrev S4x8192x6x2x64 : Shape := ⟨5, ![4, 8192, 6, 2, 64]⟩
abbrev S4x8192x512 : Shape := ⟨3, ![4, 8192, 512]⟩
abbrev S32768x512 : Shape := ⟨2, ![32768, 512]⟩
abbrev S512x32768 : Shape := ⟨2, ![512, 32768]⟩
abbrev S4x8192x1x2x64 : Shape := ⟨5, ![4, 8192, 1, 2, 64]⟩
abbrev S4x8192x2x64 : Shape := ⟨4, ![4, 8192, 2, 64]⟩
abbrev S4x2x64x8192 : Shape := ⟨4, ![4, 2, 64, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x1x1024, .f32⟩
  | .hbm, ⟨2, _⟩ => ⟨S4x1x1024, .f32⟩
  | .hbm, ⟨3, _⟩ => ⟨S1024, .f32⟩
  | .hbm, ⟨4, _⟩ => ⟨S1024x1816, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S_, .f32⟩
  | .hbm, ⟨22, _⟩ => ⟨S4x1x1024, .f32⟩
  | .hbm, ⟨23, _⟩ => ⟨S4x1x1024, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x8192x1816, .f32⟩
  | .hbm, ⟨29, _⟩ => ⟨S4x8192x768, .f32⟩
  | .hbm, ⟨30, _⟩ => ⟨S4x8192x6x2x64, .f32⟩
  | .hbm, ⟨31, _⟩ => ⟨S4x8192x512, .f32⟩
  | .hbm, ⟨32, _⟩ => ⟨S32768x512, .f32⟩
  | .hbm, ⟨33, _⟩ => ⟨S4x8192x512, .f32⟩
  | .hbm, ⟨34, _⟩ => ⟨S_, .f32⟩
  | .hbm, ⟨35, _⟩ => ⟨S4x8192x512, .f32⟩
  | .hbm, ⟨36, _⟩ => ⟨S4x8192x512, .f32⟩
  | .hbm, ⟨37, _⟩ => ⟨S32768x512, .f32⟩
  | .hbm, ⟨38, _⟩ => ⟨S512x32768, .f32⟩
  | .hbm, ⟨39, _⟩ => ⟨S512x32768, .bf16⟩
  | .hbm, ⟨40, _⟩ => ⟨S4x8192x1x2x64, .f32⟩
  | .hbm, ⟨41, _⟩ => ⟨S4x8192x2x64, .f32⟩
  | .hbm, ⟨42, _⟩ => ⟨S4x2x64x8192, .f32⟩
  | .hbm, ⟨43, _⟩ => ⟨S4x8192x1x2x64, .f32⟩
  | .hbm, ⟨44, _⟩ => ⟨S4x8192x2x64, .f32⟩
  | .hbm, ⟨45, _⟩ => ⟨S4x2x64x8192, .f32⟩
  | .hbm, ⟨46, _⟩ => ⟨S4x8192x1x2x64, .f32⟩
  | .hbm, ⟨47, _⟩ => ⟨S4x8192x2x64, .f32⟩
  | .hbm, ⟨48, _⟩ => ⟨S4x2x64x8192, .f32⟩
  | .hbm, ⟨49, _⟩ => ⟨S4x8192x1x2x64, .f32⟩
  | .hbm, ⟨50, _⟩ => ⟨S4x8192x2x64, .f32⟩
  | .hbm, ⟨51, _⟩ => ⟨S4x2x64x8192, .f32⟩
  | .hbm, ⟨52, _⟩ => ⟨S4x8192x1x2x64, .f32⟩
  | .hbm, ⟨53, _⟩ => ⟨S4x8192x2x64, .f32⟩
  | .hbm, ⟨54, _⟩ => ⟨S4x2x64x8192, .f32⟩
  | .hbm, ⟨55, _⟩ => ⟨S4x8192x1x2x64, .f32⟩
  | .hbm, ⟨56, _⟩ => ⟨S4x8192x2x64, .f32⟩
  | .hbm, ⟨57, _⟩ => ⟨S4x2x64x8192, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_3 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel3.lean ====
abbrev S32768x1024 : Shape := ⟨2, ![32768, 1024]⟩
abbrev S8x32768x1024 : Shape := ⟨3, ![8, 32768, 1024]⟩
abbrev S8x32768 : Shape := ⟨2, ![8, 32768]⟩
abbrev S4x1x1024 : Shape := ⟨3, ![4, 1, 1024]⟩
abbrev S1024 : Shape := ⟨1, ![1024]⟩
abbrev S1024x256 : Shape := ⟨2, ![1024, 256]⟩
abbrev S256x1024 : Shape := ⟨2, ![256, 1024]⟩
abbrev S32768x8 : Shape := ⟨2, ![32768, 8]⟩
abbrev S1x1024 : Shape := ⟨2, ![1, 1024]⟩
abbrev S512x1024 : Shape := ⟨2, ![512, 1024]⟩
abbrev S8x512x1024 : Shape := ⟨3, ![8, 512, 1024]⟩
abbrev S512x8 : Shape := ⟨2, ![512, 8]⟩
abbrev S1x1x1024 : Shape := ⟨3, ![1, 1, 1024]⟩
abbrev S1x512x1024 : Shape := ⟨3, ![1, 512, 1024]⟩
abbrev S512x512 : Shape := ⟨2, ![512, 512]⟩
abbrev S512x1 : Shape := ⟨2, ![512, 1]⟩
abbrev S512x256 : Shape := ⟨2, ![512, 256]⟩
abbrev S512 : Shape := ⟨1, ![512]⟩

abbrev nBuf : Space → Nat
  | .hbm => 15
  | .vmem => 16
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S8x32768x1024, .bf16⟩
  | .hbm, ⟨3, _⟩ => ⟨S8x32768, .f32⟩
  | .hbm, ⟨4, _⟩ => ⟨S4x1x1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S32768x8, .f32⟩
  | .hbm, ⟨10, _⟩ => ⟨S1024x256, .bf16⟩
  | .hbm, ⟨11, _⟩ => ⟨S1024x256, .bf16⟩
  | .hbm, ⟨12, _⟩ => ⟨S256x1024, .bf16⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S8x512x1024, .bf16⟩
  | .local _ .vmem, ⟨5, _⟩ => ⟨S8x512x1024, .bf16⟩
  | .local _ .vmem, ⟨6, _⟩ => ⟨S512x8, .f32⟩
  | .local _ .vmem, ⟨7, _⟩ => ⟨S512x8, .f32⟩
  | .local _ .vmem, ⟨8, _⟩ => ⟨S1x1x1024, .f32⟩
  | .local _ .vmem, ⟨9, _⟩ => ⟨S1x1x1024, .f32⟩
  | .local _ .vmem, ⟨10, _⟩ => ⟨S1x1024, .f32⟩
  | .local _ .vmem, ⟨11, _⟩ => ⟨S1024x256, .bf16⟩
  | .local _ .vmem, ⟨12, _⟩ => ⟨S1024x256, .bf16⟩
  | .local _ .vmem, ⟨13, _⟩ => ⟨S256x1024, .bf16⟩
  | .local _ .vmem, ⟨14, _⟩ => ⟨S512x1024, .f32⟩
  | .local _ .vmem, ⟨15, _⟩ => ⟨S512x1024, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c16_i32 : BitVec 32 := 16#32
  let v0 : BitVec 32 := Scalar.divsi arg0 c16_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c16_i32 c0_i32_1
  let v7 : BitVec 32 := Scalar.extui v6
  let c0_i32_2 : BitVec 32 := 0#32
  let v8 : BitVec 1 := Scalar.cmpi .slt c16_i32 c0_i32_2
  let v9 : BitVec 32 := Scalar.extui v8
  let v10 : BitVec 32 := Scalar.subi v7 v9
  let v11 : BitVec 1 := Scalar.cmpi .ne v5 v10
  let v12 : BitVec 32 := Scalar.remsi arg0 c16_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x8 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference3Ideal.lean ====
abbrev S32768x1024 : Shape := ⟨2, ![32768, 1024]⟩
abbrev S8x32768x1024 : Shape := ⟨3, ![8, 32768, 1024]⟩
abbrev S8x32768 : Shape := ⟨2, ![8, 32768]⟩
abbrev S4x1x1024 : Shape := ⟨3, ![4, 1, 1024]⟩
abbrev S1024 : Shape := ⟨1, ![1024]⟩
abbrev S1024x256 : Shape := ⟨2, ![1024, 256]⟩
abbrev S256x1024 : Shape := ⟨2, ![256, 1024]⟩
abbrev S4x8192x1024 : Shape := ⟨3, ![4, 8192, 1024]⟩
abbrev S32768x256 : Shape := ⟨2, ![32768, 256]⟩
abbrev S_ : Shape := ⟨0, ![]⟩
abbrev S8x32768x1 : Shape := ⟨3, ![8, 32768, 1]⟩
abbrev S4x8192 : Shape := ⟨2, ![4, 8192]⟩
abbrev S4x8192x1 : Shape := ⟨3, ![4, 8192, 1]⟩
abbrev S1x1x1024 : Shape := ⟨3, ![1, 1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S32768x1024, .bf16⟩
  | .hbm, ⟨2, _⟩ => ⟨S8x32768x1024, .bf16⟩
  | .hbm, ⟨3, _⟩ => ⟨S8x32768, .f32⟩
  | .hbm, ⟨4, _⟩ => ⟨S4x1x1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S4x8192x1024, .f32⟩
  | .hbm, ⟨10, _⟩ => ⟨S32768x1024, .f32⟩
  | .hbm, ⟨11, _⟩ => ⟨S32768x256, .f32⟩
  | .hbm, ⟨12, _⟩ => ⟨S32768x256, .f32⟩
  | .hbm, ⟨13, _⟩ => ⟨S32768x256, .f32⟩
  | .hbm, ⟨14, _⟩ => ⟨S_, .f32⟩
  | .hbm, ⟨15, _⟩ => ⟨S32768x256, .f32⟩
  | .hbm, ⟨16, _⟩ => ⟨S32768x256, .f32⟩
  | .hbm, ⟨17, _⟩ => ⟨S_, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x1024, .f32⟩
  | .hbm, ⟨24, _⟩ => ⟨S8x32768x1024, .f32⟩
  | .hbm, ⟨25, _⟩ => ⟨S8x32768x1, .f32⟩
  | .hbm, ⟨26, _⟩ => ⟨S8x32768x1024, .f32⟩
  | .hbm, ⟨27, _⟩ => ⟨S8x32768x1024, .f32⟩
  | .hbm, ⟨28, _⟩ => ⟨S_, .f32⟩
  | .hbm, ⟨29, _⟩ => ⟨S32768x1024, .f32⟩
  | .hbm, ⟨30, _⟩ => ⟨S32768x1024, .f32⟩
  | .hbm, ⟨31, _⟩ => ⟨S4x8192x1024, .f32⟩
  | .hbm, ⟨32, _⟩ => ⟨S4x8192x1024, .f32⟩
  | .hbm, ⟨33, _⟩ => ⟨S_, .f32⟩
  | .hbm, ⟨34, _⟩ => ⟨S4x8192, .f32⟩
  | .hbm, ⟨35, _⟩ => ⟨S4x8192x1, .f32⟩
  | .hbm, ⟨36, _⟩ => ⟨S_, .f32⟩
  | .hbm, ⟨37, _⟩ => ⟨S4x8192x1, .f32⟩
  | .hbm, ⟨38, _⟩ => ⟨S4x8192x1, .f32⟩
  | .hbm, ⟨39, _⟩ => ⟨S_, .f32⟩
  | .hbm, ⟨40, _⟩ => ⟨S4x8192x1, .f32⟩
  | .hbm, ⟨41, _⟩ => ⟨S4x8192x1, .f32⟩
  | .hbm, ⟨42, _⟩ => ⟨S4x8192x1, .f32⟩
  | .hbm, ⟨43, _⟩ => ⟨S4x8192x1024, .f32⟩
  | .hbm, ⟨44, _⟩ => ⟨S4x8192x1024, .f32⟩
  | .hbm, ⟨45, _⟩ => ⟨S1x1x1024, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S4x8192x1024, .f32⟩
  | .hbm, ⟨50, _⟩ => ⟨S4x8192x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩

abbrev nD : Nat := 1
abbrev τ : Topo := Topo.v7x

variable {F : FTy → Type} [FloatOps F]
-- ==== Kernel5.lean ====
abbrev S128x1024 : Shape := ⟨2, ![128, 1024]⟩
abbrev S8x128x1024 : Shape := ⟨3, ![8, 128, 1024]⟩
abbrev S8x128 : Shape := ⟨2, ![8, 128]⟩
abbrev S128x1x1024 : Shape := ⟨3, ![128, 1, 1024]⟩
abbrev S1024 : Shape := ⟨1, ![1024]⟩
abbrev S1024x256 : Shape := ⟨2, ![1024, 256]⟩
abbrev S256x1024 : Shape := ⟨2, ![256, 1024]⟩
abbrev S128x8 : Shape := ⟨2, ![128, 8]⟩
abbrev S1x128x1024 : Shape := ⟨3, ![1, 128, 1024]⟩
abbrev S1x1024 : Shape := ⟨2, ![1, 1024]⟩
abbrev S128x512 : Shape := ⟨2, ![128, 512]⟩
abbrev S128x1 : Shape := ⟨2, ![128, 1]⟩
abbrev S128x256 : Shape := ⟨2, ![128, 256]⟩
abbrev S128 : Shape := ⟨1, ![128]⟩

abbrev nBuf : Space → Nat
  | .hbm => 16
  | .vmem => 10
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S8x128x1024, .bf16⟩
  | .hbm, ⟨3, _⟩ => ⟨S8x128, .f32⟩
  | .hbm, ⟨4, _⟩ => ⟨S128x1x1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S128x8, .f32⟩
  | .hbm, ⟨10, _⟩ => ⟨S1x128x1024, .f32⟩
  | .hbm, ⟨11, _⟩ => ⟨S1024x256, .bf16⟩
  | .hbm, ⟨12, _⟩ => ⟨S1024x256, .bf16⟩
  | .hbm, ⟨13, _⟩ => ⟨S256x1024, .bf16⟩
  | .hbm, ⟨14, _⟩ => ⟨S1x1024, .f32⟩
  | .hbm, ⟨15, _⟩ => ⟨S128x1024, .f32⟩
  | .local _ .vmem, ⟨0, _⟩ => ⟨S128x1024, .f32⟩
  | .local _ .vmem, ⟨1, _⟩ => ⟨S128x1024, .bf16⟩
  | .local _ .vmem, ⟨2, _⟩ => ⟨S8x128x1024, .bf16⟩
  | .local _ .vmem, ⟨3, _⟩ => ⟨S128x8, .f32⟩
  | .local _ .vmem, ⟨4, _⟩ => ⟨S1x128x1024, .f32⟩
  | .local _ .vmem, ⟨5, _⟩ => ⟨S1x1024, .f32⟩
  | .local _ .vmem, ⟨6, _⟩ => ⟨S1024x256, .bf16⟩
  | .local _ .vmem, ⟨7, _⟩ => ⟨S1024x256, .bf16⟩
  | .local _ .vmem, ⟨8, _⟩ => ⟨S256x1024, .bf16⟩
  | .local _ .vmem, ⟨9, _⟩ => ⟨S128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S8x128x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference5Ideal.lean ====
abbrev S128x1024 : Shape := ⟨2, ![128, 1024]⟩
abbrev S8x128x1024 : Shape := ⟨3, ![8, 128, 1024]⟩
abbrev S8x128 : Shape := ⟨2, ![8, 128]⟩
abbrev S128x1x1024 : Shape := ⟨3, ![128, 1, 1024]⟩
abbrev S1024 : Shape := ⟨1, ![1024]⟩
abbrev S1024x256 : Shape := ⟨2, ![1024, 256]⟩
abbrev S256x1024 : Shape := ⟨2, ![256, 1024]⟩
abbrev S128x256 : Shape := ⟨2, ![128, 256]⟩
abbrev S_ : Shape := ⟨0, ![]⟩
abbrev S8x128x1 : Shape := ⟨3, ![8, 128, 1]⟩
abbrev S128x1 : Shape := ⟨2, ![128, 1]⟩
abbrev S128x1x1 : Shape := ⟨3, ![128, 1, 1]⟩
abbrev S1x1x1024 : Shape := ⟨3, ![1, 1, 1024]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .bf16⟩
  | .hbm, ⟨2, _⟩ => ⟨S8x128x1024, .bf16⟩
  | .hbm, ⟨3, _⟩ => ⟨S8x128, .f32⟩
  | .hbm, ⟨4, _⟩ => ⟨S128x1x1024, .f32⟩
  | .hbm, ⟨5, _⟩ => ⟨S1024, .f32⟩
  | .hbm, ⟨6, _⟩ => ⟨S1024x256, .f32⟩
  | .hbm, ⟨7, _⟩ => ⟨S1024x256, .f32⟩
  | .hbm, ⟨8, _⟩ => ⟨S256x1024, .f32⟩
  | .hbm, ⟨9, _⟩ => ⟨S128x1x1024, .f32⟩
  | .hbm, ⟨10, _⟩ => ⟨S128x1024, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S_, .f32⟩
  | .hbm, ⟨18, _⟩ => ⟨S128x256, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S128x1024, .f32⟩
  | .hbm, ⟨24, _⟩ => ⟨S8x128x1024, .f32⟩
  | .hbm, ⟨25, _⟩ => ⟨S8x128x1, .f32⟩
  | .hbm, ⟨26, _⟩ => ⟨S8x128x1024, .f32⟩
  | .hbm, ⟨27, _⟩ => ⟨S8x128x1024, .f32⟩
  | .hbm, ⟨28, _⟩ => ⟨S_, .f32⟩
  | .hbm, ⟨29, _⟩ => ⟨S128x1024, .f32⟩
  | .hbm, ⟨30, _⟩ => ⟨S128x1024, .f32⟩
  | .hbm, ⟨31, _⟩ => ⟨S128x1x1024, .f32⟩
  | .hbm, ⟨32, _⟩ => ⟨S128x1x1024, .f32⟩
  | .hbm, ⟨33, _⟩ => ⟨S_, .f32⟩
  | .hbm, ⟨34, _⟩ => ⟨S128x1, .f32⟩
  | .hbm, ⟨35, _⟩ => ⟨S128x1x1, .f32⟩
  | .hbm, ⟨36, _⟩ => ⟨S_, .f32⟩
  | .hbm, ⟨37, _⟩ => ⟨S128x1x1, .f32⟩
  | .hbm, ⟨38, _⟩ => ⟨S128x1x1, .f32⟩
  | .hbm, ⟨39, _⟩ => ⟨S_, .f32⟩
  | .hbm, ⟨40, _⟩ => ⟨S128x1x1, .f32⟩
  | .hbm, ⟨41, _⟩ => ⟨S128x1x1, .f32⟩
  | .hbm, ⟨42, _⟩ => ⟨S128x1x1, .f32⟩
  | .hbm, ⟨43, _⟩ => ⟨S128x1x1024, .f32⟩
  | .hbm, ⟨44, _⟩ => ⟨S128x1x1024, .f32⟩
  | .hbm, ⟨45, _⟩ => ⟨S1x1x1024, .f32⟩
  | .hbm, ⟨46, _⟩ => ⟨S128x1x1024, .f32⟩
  | .hbm, ⟨47, _⟩ => ⟨S128x1x1024, .f32⟩
  | .hbm, ⟨48, _⟩ => ⟨S128x1x1024, .f32⟩
  | .hbm, ⟨49, _⟩ => ⟨S128x1x1024, .f32⟩
  | .hbm, ⟨50, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_0 : Ref sig .tc := ⟨.hbm, 33, rfl⟩
abbrev main_v15 : Ref sig .tc := ⟨.hbm, 34, rfl⟩
abbrev main_v16 : Ref sig .tc := ⟨.hbm, 35, rfl⟩
abbrev main_cst_1 : Ref sig .tc := ⟨.hbm, 36, rfl⟩
abbrev main_v17 : Ref sig .tc := ⟨.hbm, 37, rfl⟩
abbrev main_v18 : Ref sig .tc := ⟨.hbm, 38, rfl⟩
abbrev main_cst_2 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩

abbrev nD : Nat := 1
abbrev τ : Topo := Topo.v7x

variable {F : FTy → Type} [FloatOps F]
-- ==== Kernel4.lean ====
abbrev S128x1x1024 : Shape := ⟨3, ![128, 1, 1024]⟩
abbrev S1024 : Shape := ⟨1, ![1024]⟩
abbrev S1024x1816 : Shape := ⟨2, ![1024, 1816]⟩
abbrev S32 : Shape := ⟨1, ![32]⟩
abbrev S1024x768 : Shape := ⟨2, ![1024, 768]⟩
abbrev S1024x512 : Shape := ⟨2, ![1024, 512]⟩
abbrev S1024x1280 : Shape := ⟨2, ![1024, 1280]⟩
abbrev S_ : Shape := ⟨0, ![]⟩
abbrev S32x1 : Shape := ⟨2, ![32, 1]⟩
abbrev S1024x32 : Shape := ⟨2, ![1024, 32]⟩
abbrev S1024x1312 : Shape := ⟨2, ![1024, 1312]⟩
abbrev S1312x1024 : Shape := ⟨2, ![1312, 1024]⟩
abbrev S128x1024 : Shape := ⟨2, ![128, 1024]⟩
abbrev S1x128x1024 : Shape := ⟨3, ![1, 128, 1024]⟩
abbrev S1x1024 : Shape := ⟨2, ![1, 1024]⟩
abbrev S128x128 : Shape := ⟨2, ![128, 128]⟩
abbrev S128x512 : Shape := ⟨2, ![128, 512]⟩
abbrev S512x128 : Shape := ⟨2, ![512, 128]⟩
abbrev S2x16x128 : Shape := ⟨3, ![2, 16, 128]⟩
abbrev S128 : Shape := ⟨1, ![128]⟩
abbrev S128x1 : Shape := ⟨2, ![128, 1]⟩
abbrev S128x1280 : Shape := ⟨2, ![128, 1280]⟩
abbrev S1312x128 : Shape := ⟨2, ![1312, 128]⟩
abbrev S16x128 : Shape := ⟨2, ![16, 128]⟩
abbrev S1x16x128 : Shape := ⟨3, ![1, 16, 128]⟩

abbrev nBuf : Space → Nat
  | .hbm => 38
  | .vmem => 15
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1816, .f32⟩
  | .hbm, ⟨5, _⟩ => ⟨S32, .i32⟩
  | .hbm, ⟨6, _⟩ => ⟨S32, .i1⟩
  | .hbm, ⟨7, _⟩ => ⟨S1024x768, .f32⟩
  | .hbm, ⟨8, _⟩ => ⟨S1024x512, .f32⟩
  | .hbm, ⟨9, _⟩ => ⟨S1024x1280, .f32⟩
  | .hbm, ⟨10, _⟩ => ⟨S1024x1280, .bf16⟩
  | .hbm, ⟨11, _⟩ => ⟨S1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1024x768, .f32⟩
  | .hbm, ⟨16, _⟩ => ⟨S_, .i32⟩
  | .hbm, ⟨17, _⟩ => ⟨S32, .i32⟩
  | .hbm, ⟨18, _⟩ => ⟨S32, .i32⟩
  | .hbm, ⟨19, _⟩ => ⟨S32, .i32⟩
  | .hbm, ⟨20, _⟩ => ⟨S32x1, .i32⟩
  | .hbm, ⟨21, _⟩ => ⟨S1024x32, .f32⟩
  | .hbm, ⟨22, _⟩ => ⟨S1024x1312, .f32⟩
  | .hbm, ⟨23, _⟩ => ⟨S1312x1024, .f32⟩
  | .hbm, ⟨24, _⟩ => ⟨S1312x1024, .bf16⟩
  | .hbm, ⟨25, _⟩ => ⟨S128x1024, .f32⟩
  | .hbm, ⟨26, _⟩ => ⟨S1x128x1024, .f32⟩
  | .hbm, ⟨27, _⟩ => ⟨S1x128x1024, .f32⟩
  | .hbm, ⟨28, _⟩ => ⟨S1x1024, .f32⟩
  | .hbm, ⟨29, _⟩ => ⟨S128x128, .f32⟩
  | .hbm, ⟨30, _⟩ => ⟨S128x128, .f32⟩
  | .hbm, ⟨31, _⟩ => ⟨S128x128, .f32⟩
  | .hbm, ⟨32, _⟩ => ⟨S128x128, .f32⟩
  | .hbm, ⟨33, _⟩ => ⟨S128x128, .f32⟩
  | .hbm, ⟨34, _⟩ => ⟨S128x128, .f32⟩
  | .hbm, ⟨35, _⟩ => ⟨S128x512, .f32⟩
  | .hbm, ⟨36, _⟩ => ⟨S512x128, .bf16⟩
  | .hbm, ⟨37, _⟩ => ⟨S2x16x128, .f32⟩
  | .local _ .vmem, ⟨0, _⟩ => ⟨S128x1024, .f32⟩
  | .local _ .vmem, ⟨1, _⟩ => ⟨S1x128x1024, .f32⟩
  | .local _ .vmem, ⟨2, _⟩ => ⟨S1x128x1024, .f32⟩
  | .local _ .vmem, ⟨3, _⟩ => ⟨S1x1024, .f32⟩
  | .local _ .vmem, ⟨4, _⟩ => ⟨S1024x1280, .bf16⟩
  | .local _ .vmem, ⟨5, _⟩ => ⟨S1312x1024, .bf16⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S128x128, .f32⟩
  | .local _ .vmem, ⟨10, _⟩ => ⟨S128x128, .f32⟩
  | .local _ .vmem, ⟨11, _⟩ => ⟨S128x128, .f32⟩
  | .local _ .vmem, ⟨12, _⟩ => ⟨S128x512, .f32⟩
  | .local _ .vmem, ⟨13, _⟩ => ⟨S512x128, .bf16⟩
  | .local _ .vmem, ⟨14, _⟩ => ⟨S2x16x128, .f32⟩
  | _, _ => ⟨S128x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_c_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev main_v20_3 : Ref sig .tc := ⟨.hbm, 32, rfl⟩
abbrev main_v20_4 : Ref sig .tc := ⟨.hbm, 33, rfl⟩
abbrev main_v20_5 : Ref sig .tc := ⟨.hbm, 34, rfl⟩
abbrev main_v20_6 : Ref sig .tc := ⟨.hbm, 35, rfl⟩
abbrev main_v20_7 : Ref sig .tc := ⟨.hbm, 36, rfl⟩
abbrev main_v20_8 : Ref sig .tc := ⟨.hbm, 37, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_2 (i : grid0.Coords) : Fin 3 → Nat :=
  let arg0 : BitVec 32 := BitVec.ofNat 32 (i 0).val
  let c1_i32 : BitVec 32 := 1#32
  let v0 : BitVec 32 := Scalar.divsi arg0 c1_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg0 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c0_i32_5 : BitVec 32 := 0#32
  let c0_i32_6 : BitVec 32 := 0#32
  let c0_i32_7 : BitVec 32 := 0#32
  ![v16.toNat, c0_i32_5.toNat, c0_i32_6.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1280 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1312x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S512x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]

abbrev stage0_14 : Fin 1 → Memref sig .tc .vmem S2x16x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![true]
-- ==== Reference4Ideal.lean ====
abbrev S128x1x1024 : Shape := ⟨3, ![128, 1, 1024]⟩
abbrev S1024 : Shape := ⟨1, ![1024]⟩
abbrev S1024x1816 : Shape := ⟨2, ![1024, 1816]⟩
abbrev S_ : Shape := ⟨0, ![]⟩
abbrev S128x1 : Shape := ⟨2, ![128, 1]⟩
abbrev S128x1x1 : Shape := ⟨3, ![128, 1, 1]⟩
abbrev S1x1x1024 : Shape := ⟨3, ![1, 1, 1024]⟩
abbrev S128x1x1816 : Shape := ⟨3, ![128, 1, 1816]⟩
abbrev S128x1x768 : Shape := ⟨3, ![128, 1, 768]⟩
abbrev S128x6x128 : Shape := ⟨3, ![128, 6, 128]⟩
abbrev S128x1x512 : Shape := ⟨3, ![128, 1, 512]⟩
abbrev S128x512 : Shape := ⟨2, ![128, 512]⟩
abbrev S512x128 : Shape := ⟨2, ![512, 128]⟩
abbrev S128x1x128 : Shape := ⟨3, ![128, 1, 128]⟩
abbrev S128x128 : Shape := ⟨2, ![128, 128]⟩

abbrev nBuf : Space → Nat
  | .hbm => 50
  | .vmem => 0
  | .smem => 0
  | _ => 0

abbrev bufTy : (tb : Table) → Fin (tcTables nBuf tb) → BufTy
  | .hbm, ⟨0, _⟩ => ⟨S128x1x1024, .f32⟩
  | .hbm, ⟨1, _⟩ => ⟨S128x1x1024, .f32⟩
  | .hbm, ⟨2, _⟩ => ⟨S128x1x1024, .f32⟩
  | .hbm, ⟨3, _⟩ => ⟨S1024, .f32⟩
  | .hbm, ⟨4, _⟩ => ⟨S1024x1816, .f32⟩
  | .hbm, ⟨5, _⟩ => ⟨S128x1x1024, .f32⟩
  | .hbm, ⟨6, _⟩ => ⟨S_, .f32⟩
  | .hbm, ⟨7, _⟩ => ⟨S128x1, .f32⟩
  | .hbm, ⟨8, _⟩ => ⟨S128x1x1, .f32⟩
  | .hbm, ⟨9, _⟩ => ⟨S_, .f32⟩
  | .hbm, ⟨10, _⟩ => ⟨S128x1x1, .f32⟩
  | .hbm, ⟨11, _⟩ => ⟨S128x1x1, .f32⟩
  | .hbm, ⟨12, _⟩ => ⟨S_, .f32⟩
  | .hbm, ⟨13, _⟩ => ⟨S128x1x1, .f32⟩
  | .hbm, ⟨14, _⟩ => ⟨S128x1x1, .f32⟩
  | .hbm, ⟨15, _⟩ => ⟨S128x1x1, .f32⟩
  | .hbm, ⟨16, _⟩ => ⟨S128x1x1024, .f32⟩
  | .hbm, ⟨17, _⟩ => ⟨S128x1x1024, .f32⟩
  | .hbm, ⟨18, _⟩ => ⟨S1x1x1024, .f32⟩
  | .hbm, ⟨19, _⟩ => ⟨S128x1x1024, .f32⟩
  | .hbm, ⟨20, _⟩ => ⟨S128x1x1024, .f32⟩
  | .hbm, ⟨21, _⟩ => ⟨S_, .f32⟩
  | .hbm, ⟨22, _⟩ => ⟨S128x1x1024, .f32⟩
  | .hbm, ⟨23, _⟩ => ⟨S128x1x1024, .f32⟩
  | .hbm, ⟨24, _⟩ => ⟨S128x1x1024, .f32⟩
  | .hbm, ⟨25, _⟩ => ⟨S128x1x1024, .f32⟩
  | .hbm, ⟨26, _⟩ => ⟨S128x1x1816, .f32⟩
  | .hbm, ⟨27, _⟩ => ⟨S128x1x768, .f32⟩
  | .hbm, ⟨28, _⟩ => ⟨S128x6x128, .f32⟩
  | .hbm, ⟨29, _⟩ => ⟨S128x1x512, .f32⟩
  | .hbm, ⟨30, _⟩ => ⟨S128x512, .f32⟩
  | .hbm, ⟨31, _⟩ => ⟨S128x1x512, .f32⟩
  | .hbm, ⟨32, _⟩ => ⟨S_, .f32⟩
  | .hbm, ⟨33, _⟩ => ⟨S128x1x512, .f32⟩
  | .hbm, ⟨34, _⟩ => ⟨S128x1x512, .f32⟩
  | .hbm, ⟨35, _⟩ => ⟨S128x512, .f32⟩
  | .hbm, ⟨36, _⟩ => ⟨S512x128, .f32⟩
  | .hbm, ⟨37, _⟩ => ⟨S512x128, .bf16⟩
  | .hbm, ⟨38, _⟩ => ⟨S128x1x128, .f32⟩
  | .hbm, ⟨39, _⟩ => ⟨S128x128, .f32⟩
  | .hbm, ⟨40, _⟩ => ⟨S128x1x128, .f32⟩
  | .hbm, ⟨41, _⟩ => ⟨S128x128, .f32⟩
  | .hbm, ⟨42, _⟩ => ⟨S128x1x128, .f32⟩
  | .hbm, ⟨43, _⟩ => ⟨S128x128, .f32⟩
  | .hbm, ⟨44, _⟩ => ⟨S128x1x128, .f32⟩
  | .hbm, ⟨45, _⟩ => ⟨S128x128, .f32⟩
  | .hbm, ⟨46, _⟩ => ⟨S128x1x128, .f32⟩
  | .hbm, ⟨47, _⟩ => ⟨S128x128, .f32⟩
  | .hbm, ⟨48, _⟩ => ⟨S128x1x128, .f32⟩
  | .hbm, ⟨49, _⟩ => ⟨S128x128, .f32⟩
  | _, _ => ⟨S128x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_2 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩

abbrev nD : Nat := 1
abbrev τ : Topo := Topo.v7x

variable {F : FTy → Type} [FloatOps F]
-- ==== Proof.Pre.lean ====
/-
  The precondition read as what it says: every word of the expert table is below 256.
-/
module

public import proofs.«01_k».proof.Defs
public import proofs.«01_k».proof.Proof.Gen.Pre_expert_in_range
public import Idealize.ShloMosaic.Lib.ReduceAll
public import Idealize.ShloMosaic.Lib.Affine

@[expose] public section

set_option maxRecDepth 16384

noncomputable section

namespace Cert.Pre_expert_in_range.Moe

open Idealize.ShloMosaic Cert.Pre_expert_in_range Cert.Pre_expert_in_range.Gen

/-- Where the precondition's function is all ones, every word of its second argument is below 256. -/
theorem in_range {F : FTy → Type} [FloatOps F] (a0 : FVec F S394240x1024 .bf16) (a1 : IVec S770 32) (a2 : IVec S1 32)
    (a3 a4 : FVec F S256x1024x256 .f32) (a5 : FVec F S256x256x1024 .f32)
    (h : Cert.Pre_expert_in_range.fn (F := F) a0 a1 a2 a3 a4 a5 = fun _ => 1#1) (j : S770.Idx) : (a1 j).toNat < 256 := by
  have hs : Subsingleton S_.Idx := ⟨fun a b => funext fun i => i.elim0⟩
  have e := Host.reduce_andi_all _ _ reducesTo_S770_S_d0 h_S_ (fun i => i.elim0) (congrFun h (fun i => i.elim0)) j
  obtain ⟨e1, e2⟩ := IntOp.andi_eq_one.1 e
  have g1 : (0 : ℤ) ≤ (a1 j).toInt := IntOp.cmpi_sge.1 e1
  have g2 : (a1 j).toInt < (256#32).toInt := IntOp.cmpi_slt.1 e2
  have g3 : (256#32).toInt = 256 := by decide
  rw [g3] at g2
  rw [BitVec.toInt_eq_toNat_cond] at g1 g2
  split at g1 <;> split at g2 <;> omega

end Cert.Pre_expert_in_range.Moe

end
-- ==== Proof.Body.lean ====
/-
  One grid step of the grouped expert MLP, by the three ways its two conditions can fall: the block is used and its
  expert differs from the block before (the weights are read and kept), the block is used and its expert is the one of
  the block before (the kept weights are read), or the block is unused (zeros are stored). For any float values.
-/
module

public import proofs.«01_k».proof.Proof.Gen.KernelIdeal.Skeleton
public import proofs.«01_k».proof.Proof.Gen.KernelIdeal.Launch
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.VecWindow
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The expert of every block, and the number of used blocks: the two tables the grid steps read. -/
abbrev beM : Memref sig .tc .smem S770 .i32 := Memref.whole main_arg1
abbrev nbM : Memref sig .tc .smem S1 .i32 := Memref.whole main_arg2
/-- The kept weights: the first, the second and the down projection of the expert last read. -/
abbrev wgM : Memref sig .tc .vmem S1024x256 .bf16 := Memref.whole cc0_scratch0
abbrev wuM : Memref sig .tc .vmem S1024x256 .bf16 := Memref.whole cc0_scratch1
abbrev wdM : Memref sig .tc .vmem S256x1024 .bf16 := Memref.whole cc0_scratch2

/-- The number of used blocks, as a step reads it. -/
abbrev nbWord (T1 : S1.Idx → Elt F .i32) : BitVec 32 :=
  View.readAt (Elt F) nbM.view (Rect.unit (s := S1) ![0] S1.size inb_S1_S1_0).toLoadRect T1 (Shape.Idx.first (numel1_S1.symm ▸ Nat.one_pos))
/-- The expert of the step's block. -/
abbrev beWord (i : grid0.Coords) (T0 : S770.Idx → Elt F .i32) : BitVec 32 :=
  View.readAt (Elt F) beM.view (Rect.unit (s := S770) (k0_off2 i) S1.size (k0_off2_inb i)).toLoadRect T0 (Shape.Idx.first (numel1_S1.symm ▸ Nat.one_pos))
/-- The expert of the block before (of the block itself at the first step). -/
abbrev bePrev (i : grid0.Coords) (T0 : S770.Idx → Elt F .i32) : BitVec 32 :=
  View.readAt (Elt F) beM.view (Rect.unit (s := S770) (k0_off3 i) S1.size (k0_off3_inb i)).toLoadRect T0 (Shape.Idx.first (numel1_S1.symm ▸ Nat.one_pos))
/-- The condition under which a used block reads its expert's weights. -/
abbrev freshCond (i : grid0.Coords) (T0 : S770.Idx → Elt F .i32) : BitVec 1 :=
  Scalar.cmpi .ne (Scalar.extui (Scalar.ori (Scalar.cmpi .eq (BitVec.ofNat 32 (i 0).val) 0#32) (Scalar.cmpi .ne (beWord i T0) (bePrev i T0)))) 0#32

/-- A block's result depends on its rows and the three weights only. -/
theorem pay4_congr {a a' : Vec F S512x1024 .bf16} {g g' u u' : Vec F S1024x256 .bf16} {d d' : Vec F S256x1024 .bf16}
    (ha : a = a') (hg : g = g') (hu : u = u') (hd : d = d') : k0_pay4 a g u d = k0_pay4 a' g' u' d' := by
  subst ha hg hu hd; rfl

section
variable (c : Dev nD) (i : grid0.Coords) (arg3 : Memref sig .tc .vmem S512x1024 .bf16) (harg3 : arg3.IsWhole) (arg4 : Memref sig .tc .vmem S1x1024x256 .f32) (harg4 : arg4.IsWhole) (arg5 : Memref sig .tc .vmem S1x1024x256 .f32) (harg5 : arg5.IsWhole) (arg6 : Memref sig .tc .vmem S1x256x1024 .f32) (harg6 : arg6.IsWhole) (arg7 : Memref sig .tc .vmem S512x1024 .bf16) (harg7 : arg7.IsWhole)
  (T0 : S770.Idx → Elt F .i32) (T1 : S1.Idx → Elt F .i32)
  (x0 : S512x1024.Idx → Elt F .bf16) (x1 : S1x1024x256.Idx → Elt F .f32) (x2 : S1x1024x256.Idx → Elt F .f32) (x3 : S1x256x1024.Idx → Elt F .f32)

/-- What a step holds besides the output block and the kept weights: its blocks of the rows and of the three weight
    arrays, and half of each table. -/
abbrev Ins : sProp 𝕄 :=
  iprop((arg3.view.loc (c : Thread nD τ) ↦[arg3.view.set]{fullShare} arg3.view.rep x0) ∗ (arg4.view.loc (c : Thread nD τ) ↦[arg4.view.set]{fullShare} arg4.view.rep x1) ∗ (arg5.view.loc (c : Thread nD τ) ↦[arg5.view.set]{fullShare} arg5.view.rep x2)
    ∗ (arg6.view.loc (c : Thread nD τ) ↦[arg6.view.set]{fullShare} arg6.view.rep x3)
    ∗ (beM.view.loc (c : Thread nD τ) ↦{fullShare.right} T0) ∗ (nbM.view.loc (c : Thread nD τ) ↦{fullShare.right} T1))

/-- The step, on its blocks. -/
abbrev stepProg : Prog (TpuEff nD τ sig (Elt F) Λ₀ .tc) PUnit :=
  cc0_moe_experts i beM (Memref.isWhole_whole _) nbM (Memref.isWhole_whole _) arg3 harg3 arg4 harg4 arg5 harg5 arg6 harg6 arg7 harg7
    wgM (Memref.isWhole_whole _) wuM (Memref.isWhole_whole _) wdM (Memref.isWhole_whole _)

set_option maxHeartbeats 4000000 in
/-- An unused block: zeros are stored, the kept weights stay. -/
theorem step_unused (g : S1024x256.Idx → Elt F .bf16) (u : S1024x256.Idx → Elt F .bf16) (d : S256x1024.Idx → Elt F .bf16)
    (h1 : ¬(k0_cond1 i (nbWord T1) = 1#1)) (h3 : k0_cond3 i (nbWord T1) = 1#1) (K : PUnit → sProp 𝕄) :
    iprop(Ins c arg3 arg4 arg5 arg6 T0 T1 x0 x1 x2 x3
        ∗ (∃ y, owns (c : Thread nD τ) arg7 fullShare y)
        ∗ (wgM.view.loc (c : Thread nD τ) ↦{fullShare} g) ∗ (wuM.view.loc (c : Thread nD τ) ↦{fullShare} u) ∗ (wdM.view.loc (c : Thread nD τ) ↦{fullShare} d)
        ∗ (iprop(Ins c arg3 arg4 arg5 arg6 T0 T1 x0 x1 x2 x3
            ∗ owns (c : Thread nD τ) arg7 fullShare (k0_pay5 (F := F))
            ∗ (wgM.view.loc (c : Thread nD τ) ↦{fullShare} g) ∗ (wuM.view.loc (c : Thread nD τ) ↦{fullShare} u) ∗ (wdM.view.loc (c : Thread nD τ) ↦{fullShare} d)) -∗ K ⟨⟩))
      ⊢ wp frame (wpE (defs₀ (F := F)) Variants.none c none) Set.univ (stepProg i arg3 harg3 arg4 harg4 arg5 harg5 arg6 harg6 arg7 harg7) K := by
  unfold owns stepProg
  rw [cc0_moe_experts_eq_skeleton]; unfold cc0_moe_experts_skel
  iintro ⟨⟨H0, H1, H2, H3, HT0, HT1⟩, ⟨%d4, %f4, -, HO4⟩, HS0, HS1, HS2, Hk⟩
  have hT0 : beM.IsWhole := Memref.isWhole_whole _
  have hT1 : nbM.IsWhole := Memref.isWhole_whole _
  sl_exec! (disch := first | (guard_target = ¬(k0_cond1 _ _ = _); exact h1) | (guard_target = k0_cond3 _ _ = _; exact h3))
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro; exact View.read_writes_full _ _ _ _ _
  isplitl [HS0]; · iexact HS0
  isplitl [HS1]; · iexact HS1
  iexact HS2

set_option maxHeartbeats 4000000 in
/-- A used block whose expert is the one of the block before: its rows go through the kept weights. -/
theorem step_kept (g : S1024x256.Idx → Elt F .bf16) (u : S1024x256.Idx → Elt F .bf16) (d : S256x1024.Idx → Elt F .bf16)
    (h1 : k0_cond1 i (nbWord T1) = 1#1) (h2 : ¬(freshCond i T0 = 1#1)) (h3 : ¬(k0_cond3 i (nbWord T1) = 1#1)) (K : PUnit → sProp 𝕄) :
    iprop(Ins c arg3 arg4 arg5 arg6 T0 T1 x0 x1 x2 x3
        ∗ (∃ y, owns (c : Thread nD τ) arg7 fullShare y)
        ∗ (wgM.view.loc (c : Thread nD τ) ↦{fullShare} g) ∗ (wuM.view.loc (c : Thread nD τ) ↦{fullShare} u) ∗ (wdM.view.loc (c : Thread nD τ) ↦{fullShare} d)
        ∗ (iprop(Ins c arg3 arg4 arg5 arg6 T0 T1 x0 x1 x2 x3
            ∗ owns (c : Thread nD τ) arg7 fullShare (k0_pay4 x0 g u d)
            ∗ (wgM.view.loc (c : Thread nD τ) ↦{fullShare} g) ∗ (wuM.view.loc (c : Thread nD τ) ↦{fullShare} u) ∗ (wdM.view.loc (c : Thread nD τ) ↦{fullShare} d)) -∗ K ⟨⟩))
      ⊢ wp frame (wpE (defs₀ (F := F)) Variants.none c none) Set.univ (stepProg i arg3 harg3 arg4 harg4 arg5 harg5 arg6 harg6 arg7 harg7) K := by
  unfold owns stepProg
  rw [cc0_moe_experts_eq_skeleton]; unfold cc0_moe_experts_skel
  iintro ⟨⟨H0, H1, H2, H3, HT0, HT1⟩, ⟨%d4, %f4, -, HO4⟩, HS0, HS1, HS2, Hk⟩
  have hS0 : wgM.IsWhole := Memref.isWhole_whole _
  have hS1 : wuM.IsWhole := Memref.isWhole_whole _
  have hS2 : wdM.IsWhole := Memref.isWhole_whole _
  have hT0 : beM.IsWhole := Memref.isWhole_whole _
  have hT1 : nbM.IsWhole := Memref.isWhole_whole _
  sl_exec! (disch := first | (guard_target = k0_cond1 _ _ = _; exact h1) | (guard_target = ¬(k0_cond3 _ _ = _); exact h3) | exact h2)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro; exact (View.read_writes_full _ _ _ _ _).trans (pay4_congr (View.readAt_rep_full arg3.view x0 _) (View.readAt_full wgM.view g _)
        (View.readAt_full wuM.view u _) (View.readAt_full wdM.view d _))
  isplitl [HS0]; · iexact HS0
  isplitl [HS1]; · iexact HS1
  iexact HS2

set_option maxHeartbeats 8000000 in
/-- A used block whose expert is new: its weights are read and kept, and its rows go through them. -/
theorem step_fresh
    (h1 : k0_cond1 i (nbWord T1) = 1#1) (h2 : freshCond i T0 = 1#1) (h3 : ¬(k0_cond3 i (nbWord T1) = 1#1)) (K : PUnit → sProp 𝕄) :
    iprop(Ins c arg3 arg4 arg5 arg6 T0 T1 x0 x1 x2 x3
        ∗ (∃ y, owns (c : Thread nD τ) arg7 fullShare y)
        ∗ (∃ g : S1024x256.Idx → Elt F .bf16, (wgM.view.loc (c : Thread nD τ) ↦{fullShare} g)) ∗ (∃ u : S1024x256.Idx → Elt F .bf16, (wuM.view.loc (c : Thread nD τ) ↦{fullShare} u)) ∗ (∃ d : S256x1024.Idx → Elt F .bf16, (wdM.view.loc (c : Thread nD τ) ↦{fullShare} d))
        ∗ (iprop(Ins c arg3 arg4 arg5 arg6 T0 T1 x0 x1 x2 x3
            ∗ owns (c : Thread nD τ) arg7 fullShare (k0_pay4 x0 (k0_pay1 x1) (k0_pay2 x2) (k0_pay3 x3))
            ∗ (∃ a, ⌜a = k0_pay1 x1⌝ ∗ (wgM.view.loc (c : Thread nD τ) ↦{fullShare} a)) ∗ (∃ a, ⌜a = k0_pay2 x2⌝ ∗ (wuM.view.loc (c : Thread nD τ) ↦{fullShare} a))
            ∗ (∃ a, ⌜a = k0_pay3 x3⌝ ∗ (wdM.view.loc (c : Thread nD τ) ↦{fullShare} a))) -∗ K ⟨⟩))
      ⊢ wp frame (wpE (defs₀ (F := F)) Variants.none c none) Set.univ (stepProg i arg3 harg3 arg4 harg4 arg5 harg5 arg6 harg6 arg7 harg7) K := by
  unfold owns stepProg
  rw [cc0_moe_experts_eq_skeleton]; unfold cc0_moe_experts_skel
  iintro ⟨⟨H0, H1, H2, H3, HT0, HT1⟩, ⟨%d4, %f4, -, HO4⟩, ⟨%g, HS0⟩, ⟨%u, HS1⟩, ⟨%d, HS2⟩, Hk⟩
  have hS0 : wgM.IsWhole := Memref.isWhole_whole _
  have hS1 : wuM.IsWhole := Memref.isWhole_whole _
  have hS2 : wdM.IsWhole := Memref.isWhole_whole _
  have hT0 : beM.IsWhole := Memref.isWhole_whole _
  have hT1 : nbM.IsWhole := Memref.isWhole_whole _
  sl_exec! (disch := first | (guard_target = k0_cond1 _ _ = _; exact h1) | (guard_target = ¬(k0_cond3 _ _ = _); exact h3) | exact h2)
  sl_step
  iapply Hk
  isplitl [H0 H1 H2 H3 HT0 HT1]
  · isplitl [H0]; · iexact H0
    isplitl [H1]; · iexact H1
    isplitl [H2]; · iexact H2
    isplitl [H3]; · iexact H3
    isplitl [HT0]; · iexact HT0
    iexact HT1
  isplitl [HO4]
  · iexists _; isplitr; swap
    · iexact HO4
    · ipureintro; exact (View.read_writes_full _ _ _ _ _).trans (pay4_congr (View.readAt_rep_full arg3.view x0 _)
        ((View.readCov_full wgM.view _ _ _ _).trans (congrArg k0_pay1 (View.readAt_rep_full arg4.view x1 _)))
        ((View.readCov_full wuM.view _ _ _ _).trans (congrArg k0_pay2 (View.readAt_rep_full arg5.view x2 _)))
        ((View.readCov_full wdM.view _ _ _ _).trans (congrArg k0_pay3 (View.readAt_rep_full arg6.view x3 _))))
  isplitl [HS0]
  · iexists _; isplitr; swap
    · iexact HS0
    · ipureintro; exact (View.read_writes_full (Val := Elt F) wgM.view _ _ _ _).trans (congrArg k0_pay1 (View.readAt_rep_full arg4.view x1 _))
  isplitl [HS1]
  · iexists _; isplitr; swap
    · iexact HS1
    · ipureintro; exact (View.read_writes_full (Val := Elt F) wuM.view _ _ _ _).trans (congrArg k0_pay2 (View.readAt_rep_full arg5.view x2 _))
  iexists _; isplitr; swap
  · iexact HS2
  · ipureintro; exact (View.read_writes_full (Val := Elt F) wdM.view _ _ _ _).trans (congrArg k0_pay3 (View.readAt_rep_full arg6.view x3 _))

end

end Cert.KernelIdeal.Moe

end
-- ==== Proof.Sched.lean ====
/-
  What the two tables decide, for ANY tables whose experts are in range: which blocks are used, when a block's expert
  is the one of the block before, and that every window stays inside its array. For any float values.
-/
module

public import proofs.«01_k».proof.Proof.Body
public import Idealize.ShloMosaic.Lib.Pointwise
public import Idealize.ShloMosaic.Lib.Pipeline.ValueKit

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open Idealize.ShloMosaic.Pipeline (Dat Cfg Window)

variable {F : FTy → Type} [FloatOps F]

/-! ## The words a step reads -/

/-- The place of block `n` in the expert table, and the one place of the count. -/
abbrev ePos (n : ℕ) (h : n < 770) : S770.Idx := ix1 ⟨n, h⟩
abbrev nPos : S1.Idx := ix1 ⟨0, by decide⟩

/-- A grid coordinate is below the number of blocks. -/
theorem crd_lt (i : grid0.Coords) : (i 0).val < 770 := (i 0).isLt

theorem nbWord_eq (T1 : S1.Idx → Elt F .i32) : nbWord T1 = T1 nPos := by
  refine congrArg T1 (funext fun a => ?_)
  obtain rfl : a = 0 := Subsingleton.elim (α := Fin 1) _ _
  exact Subsingleton.elim (α := Fin 1) _ _

theorem off2_val (i : grid0.Coords) : k0_off2 i 0 = (i 0).val := by
  have := crd_lt i
  show (BitVec.ofNat 32 (i 0).val).toNat = _
  rw [BitVec.toNat_ofNat]; omega

theorem off1_val (i : grid0.Coords) : k0_off1 i 0 = (i 0).val := off2_val i

theorem off3_val (i : grid0.Coords) : k0_off3 i 0 = (i 0).val - 1 := by
  have hi := crd_lt i
  have h : ∀ n : Fin 770, (Scalar.maxsi (Scalar.subi (BitVec.ofNat 32 n.val) 1#32) 0#32).toNat = n.val - 1 := by decide +kernel
  show (Scalar.maxsi (Scalar.subi (BitVec.ofNat 32 (i 0).val) 1#32) 0#32).toNat = _
  exact h ⟨_, hi⟩

theorem beWord_eq (i : grid0.Coords) (T0 : S770.Idx → Elt F .i32) : beWord i T0 = T0 (ePos (i 0).val (crd_lt i)) := by
  refine congrArg T0 (funext fun a => Fin.ext ?_)
  obtain rfl : a = 0 := Subsingleton.elim (α := Fin 1) _ _
  show k0_off2 i 0 + _ = (i 0).val
  rw [off2_val]; rfl

theorem bePrev_eq (i : grid0.Coords) (T0 : S770.Idx → Elt F .i32) :
    bePrev i T0 = T0 (ePos ((i 0).val - 1) (by have := crd_lt i; omega)) := by
  refine congrArg T0 (funext fun a => Fin.ext ?_)
  obtain rfl : a = 0 := Subsingleton.elim (α := Fin 1) _ _
  show k0_off3 i 0 + _ = (i 0).val - 1
  rw [off3_val]; rfl

/-! ## The conditions -/

/-- Block `n` is used when the count, read as a signed word, is above `n`. -/
def Used (T1 : S1.Idx → Elt F .i32) (n : ℕ) : Prop := (BitVec.ofNat 32 n).slt (T1 nPos : BitVec 32) = true

instance (T1 : S1.Idx → Elt F .i32) (n : ℕ) : Decidable (Used T1 n) := inferInstanceAs (Decidable (_ = true))

theorem cond1_word (i : grid0.Coords) (w : BitVec 32) : k0_cond1 i w = 1#1 ↔ (BitVec.ofNat 32 (i 0).val).slt w = true := by
  unfold k0_cond1 Scalar.cmpi Scalar.extui
  generalize BitVec.ofNat 32 (i 0).val = a
  cases h : a.slt w <;> simp [IntOp.cmpi, h]

theorem cond3_word (i : grid0.Coords) (w : BitVec 32) : k0_cond3 i w = 1#1 ↔ ¬ (BitVec.ofNat 32 (i 0).val).slt w = true := by
  unfold k0_cond3 Scalar.cmpi Scalar.extui
  generalize BitVec.ofNat 32 (i 0).val = a
  have e : w.sle a = !(a.slt w) := by
    unfold BitVec.sle BitVec.slt; rw [← decide_not]; exact decide_eq_decide.2 not_lt.symm
  cases h : a.slt w <;> simp [IntOp.cmpi, e, h]

/-- The first branch runs at the used blocks, the other one at the unused. -/
theorem cond1_used (i : grid0.Coords) (T1 : S1.Idx → Elt F .i32) : k0_cond1 i (nbWord T1) = 1#1 ↔ Used T1 (i 0).val := by
  rw [nbWord_eq]; exact cond1_word i _
theorem cond3_used (i : grid0.Coords) (T1 : S1.Idx → Elt F .i32) : k0_cond3 i (nbWord T1) = 1#1 ↔ ¬ Used T1 (i 0).val := by
  rw [nbWord_eq]; exact cond3_word i _

/-- A block before a used one is used. -/
theorem used_pred (T1 : S1.Idx → Elt F .i32) {n : ℕ} (hn : n + 1 < 770) (h : Used T1 (n + 1)) : Used T1 n := by
  unfold Used at *
  generalize (T1 nPos : BitVec 32) = w at *
  simp only [BitVec.slt, BitVec.toInt_eq_toNat_cond, BitVec.toNat_ofNat, decide_eq_true_eq] at *
  omega

/-- The condition for reading the weights, at the first block and at two unequal experts: it holds. -/
theorem fresh_word_zero (a b : BitVec 32) :
    Scalar.cmpi .ne (Scalar.extui (Scalar.ori (Scalar.cmpi .eq (BitVec.ofNat 32 0) 0#32) (Scalar.cmpi .ne a b))) 0#32 = 1#1 := by
  have e : Scalar.cmpi .eq (BitVec.ofNat 32 0) 0#32 = 1#1 := by decide
  rw [e]
  rcases BitVec.eq_zero_or_eq_one (Scalar.cmpi .ne a b) with h | h <;> rw [h] <;> decide
theorem fresh_word_ne (n a b : BitVec 32) (hab : ¬ a = b) :
    Scalar.cmpi .ne (Scalar.extui (Scalar.ori (Scalar.cmpi .eq n 0#32) (Scalar.cmpi .ne a b))) 0#32 = 1#1 := by
  have e : Scalar.cmpi .ne a b = 1#1 := by
    have : (a != b) = true := by simpa using hab
    show BitVec.ofBool (a != b) = 1#1
    rw [this]; rfl
  rw [e]
  rcases BitVec.eq_zero_or_eq_one (Scalar.cmpi .eq n 0#32) with h | h <;> rw [h] <;> decide

/-- Where the weights are not read anew: past the first block, at the expert of the block before. -/
theorem not_fresh (i : grid0.Coords) (T0 : S770.Idx → Elt F .i32) (h : ¬ freshCond i T0 = 1#1) :
    (i 0).val ≠ 0 ∧ T0 (ePos (i 0).val (crd_lt i)) = T0 (ePos ((i 0).val - 1) (by have := crd_lt i; omega)) := by
  have hi := crd_lt i
  unfold freshCond at h
  rw [beWord_eq, bePrev_eq] at h
  generalize T0 (ePos (i 0).val (crd_lt i)) = a at *
  generalize T0 (ePos ((i 0).val - 1) _) = b at *
  refine ⟨fun h0 => h ?_, ?_⟩
  · rw [h0]; exact fresh_word_zero a b
  · by_contra hab; exact h (fresh_word_ne _ a b hab)

/-! ## Every window inside its array -/

/-- The block of rows a step is given: the last used block at most. -/
def lastOf (T1 : S1.Idx → Elt F .i32) (n : ℕ) : ℕ :=
  (Scalar.maxsi (Scalar.minsi (BitVec.ofNat 32 n) (Scalar.subi (T1 nPos : BitVec 32) 1#32)) 0#32).toNat

theorem slt_iff (a b : BitVec 32) : a.slt b = true ↔ a.toInt < b.toInt := by unfold BitVec.slt; exact decide_eq_true_iff
theorem toInt_small {n : ℕ} (hn : n < 770) : (BitVec.ofNat 32 n).toInt = n := by
  rw [BitVec.toInt_eq_toNat_cond, BitVec.toNat_ofNat]; split <;> omega
theorem toNat_small {n : ℕ} (hn : n < 770) : (BitVec.ofNat 32 n).toNat = n := by rw [BitVec.toNat_ofNat]; omega

/-- A word above zero is its natural number. -/
theorem toNat_of_pos (w : BitVec 32) (h : (0#32).slt w = true) : (w.toNat : ℤ) = w.toInt := by
  rw [slt_iff, show (0#32).toInt = 0 from rfl] at h
  have hw := w.isLt
  rw [BitVec.toInt_eq_toNat_cond] at h ⊢
  split at h <;> omega

theorem lastOf_le (T1 : S1.Idx → Elt F .i32) {n : ℕ} (hn : n < 770) : lastOf T1 n ≤ n := by
  unfold lastOf
  generalize Scalar.subi (T1 nPos : BitVec 32) 1#32 = w
  show (if (0#32).slt (if (BitVec.ofNat 32 n).slt w = true then BitVec.ofNat 32 n else w) = true then (if (BitVec.ofNat 32 n).slt w = true then BitVec.ofNat 32 n else w) else 0#32).toNat ≤ n
  by_cases h : (BitVec.ofNat 32 n).slt w = true
  · rw [if_pos h]
    by_cases h0 : (0#32).slt (BitVec.ofNat 32 n) = true
    · rw [if_pos h0, toNat_small hn]
    · rw [if_neg h0]; exact Nat.zero_le _
  · rw [if_neg h]
    by_cases h0 : (0#32).slt w = true
    · rw [if_pos h0]
      have e := toNat_of_pos w h0
      rw [slt_iff, toInt_small hn] at h
      omega
    · rw [if_neg h0]; exact Nat.zero_le _

/-- At a used block it is the block itself. -/
theorem lastOf_used (T1 : S1.Idx → Elt F .i32) {n : ℕ} (hn : n < 770) (h : Used T1 n) : lastOf T1 n = n := by
  unfold lastOf Used at *
  generalize (T1 nPos : BitVec 32) = w at *
  have hw := w.isLt
  rw [slt_iff, toInt_small hn] at h
  have h' := h
  rw [BitVec.toInt_eq_toNat_cond] at h'
  have e : (Scalar.subi w 1#32).toNat = w.toNat - 1 := by
    show (w - 1#32).toNat = _
    rw [BitVec.toNat_sub, BitVec.toNat_ofNat]; split at h' <;> omega
  generalize Scalar.subi w 1#32 = v at e
  have ev : v.toInt = (v.toNat : ℤ) := by rw [BitVec.toInt_eq_toNat_cond]; split <;> split at h' <;> omega
  show (if (0#32).slt (if (BitVec.ofNat 32 n).slt v = true then BitVec.ofNat 32 n else v) = true then (if (BitVec.ofNat 32 n).slt v = true then BitVec.ofNat 32 n else v) else 0#32).toNat = n
  have e2 : (if (BitVec.ofNat 32 n).slt v = true then BitVec.ofNat 32 n else v) = BitVec.ofNat 32 n := by
    by_cases hv : (BitVec.ofNat 32 n).slt v = true
    · rw [if_pos hv]
    · rw [if_neg hv]
      rw [slt_iff, toInt_small hn] at hv
      apply BitVec.eq_of_toNat_eq
      rw [toNat_small hn]; split at h' <;> omega
  rw [e2]
  by_cases h0 : (0#32).slt (BitVec.ofNat 32 n) = true
  · rw [if_pos h0, toNat_small hn]
  · rw [if_neg h0]
    rw [slt_iff, toInt_small hn, show (0#32).toInt = 0 from rfl] at h0
    show 0 = n
    omega

/-- The two tables as the pipeline takes them. -/
def tabs (T0 : S770.Idx → Elt F .i32) (T1 : S1.Idx → Elt F .i32) : pre0.Contents (Elt F) :=
  fun | ⟨0, _⟩ => T0 | ⟨1, _⟩ => T1 | ⟨_ + 2, h⟩ => absurd h (Nat.not_lt.2 (Nat.le_add_left _ _))

/-- Every expert of the table is one of the 256. -/
def InRange (T0 : S770.Idx → Elt F .i32) : Prop := ∀ j : S770.Idx, (T0 j : BitVec 32).toNat < 256

variable (T0 : S770.Idx → Elt F .i32) (T1 : S1.Idx → Elt F .i32)

theorem transform_0_eq (i : grid0.Coords) : cc0_transform_0 inb_S1_S1_0 numel1_S1 (tabs T0 T1) i = ![lastOf T1 (i 0).val, 0] := by
  have h := nbWord_eq T1
  unfold cc0_transform_0 lastOf
  rw [← h]; rfl

theorem transform_1_eq (i : grid0.Coords) :
    cc0_transform_1 k0_off1_inb numel1_S1 (tabs T0 T1) i = ![(T0 (ePos (i 0).val (crd_lt i)) : BitVec 32).toNat, 0, 0] := by
  have h := beWord_eq i T0
  unfold cc0_transform_1
  rw [← h]; rfl

theorem transform_2_eq (i : grid0.Coords) :
    cc0_transform_2 k0_off1_inb numel1_S1 (tabs T0 T1) i = ![(T0 (ePos (i 0).val (crd_lt i)) : BitVec 32).toNat, 0, 0] := transform_1_eq T0 T1 i

theorem transform_3_eq (i : grid0.Coords) :
    cc0_transform_3 k0_off1_inb numel1_S1 (tabs T0 T1) i = ![(T0 (ePos (i 0).val (crd_lt i)) : BitVec 32).toNat, 0, 0] := transform_1_eq T0 T1 i

theorem transform_4_eq (i : grid0.Coords) : cc0_transform_4 i = ![(i 0).val, 0] := by
  have h := off2_val i
  have h' : (BitVec.ofNat 32 (i 0).val).toNat = (i 0).val := h
  show ![(BitVec.ofNat 32 (i 0).val).toNat, 0] = _
  rw [h']

/-- With every expert in range, every window's block is inside its array. -/
theorem ok_tabs (hT : InRange T0) : ok0 (F := F) (tabs T0 T1) := by
  refine ⟨fun i => ⟨?_, .inr (Affine.block_words_dvd (by decide) (by decide))⟩, fun i => ⟨?_, .inl rfl⟩, fun i => ⟨?_, .inl rfl⟩, fun i => ⟨?_, .inl rfl⟩⟩
  · rw [transform_0_eq]; intro a
    have h := lastOf_le T1 (crd_lt i); have h' := crd_lt i
    fin_cases a
    · show (lastOf T1 (i 0).val + 1) * 512 ≤ 394240; omega
    · show (0 + 1) * 1024 ≤ 1024; omega
  · rw [transform_1_eq]; intro a
    have h := hT (ePos (i 0).val (crd_lt i))
    fin_cases a
    · show ((T0 (ePos (i 0).val (crd_lt i)) : BitVec 32).toNat + 1) * 1 ≤ 256; omega
    · show (0 + 1) * 1024 ≤ 1024; omega
    · show (0 + 1) * 256 ≤ 256; omega
  · rw [transform_2_eq]; intro a
    have h := hT (ePos (i 0).val (crd_lt i))
    fin_cases a
    · show ((T0 (ePos (i 0).val (crd_lt i)) : BitVec 32).toNat + 1) * 1 ≤ 256; omega
    · show (0 + 1) * 1024 ≤ 1024; omega
    · show (0 + 1) * 256 ≤ 256; omega
  · rw [transform_3_eq]; intro a
    have h := hT (ePos (i 0).val (crd_lt i))
    fin_cases a
    · show ((T0 (ePos (i 0).val (crd_lt i)) : BitVec 32).toNat + 1) * 1 ≤ 256; omega
    · show (0 + 1) * 256 ≤ 256; omega
    · show (0 + 1) * 1024 ≤ 1024; omega

/-- The output block is stored at every step. -/
theorem idle_4 (i : grid0.Coords) : idle0 (F := F) (tabs T0 T1) 4 i = false := by
  show (!(k0_cond1 i ((tabs T0 T1).atD 1 ![0]) == 1#1) && !(k0_cond3 i ((tabs T0 T1).atD 1 ![0]) == 1#1)) = false
  generalize (tabs T0 T1).atD 1 ![0] = w
  by_cases h : (BitVec.ofNat 32 (i 0).val).slt w = true
  · rw [(cond1_word i w).2 h]; rfl
  · rw [(cond3_word i w).2 h]; simp

end Cert.KernelIdeal.Moe

end
-- ==== Proof.Run.lean ====
/-
  The whole launch of the grouped expert MLP, at any tables whose experts are in range: what every grid step finds and
  leaves, and what the arrays hold at the end. For any float values.
-/
module

public import proofs.«01_k».proof.Proof.Sched

@[expose] public section

set_option maxRecDepth 16384
set_option Elab.async false

noncomputable section

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The pipeline's staging cells' algebra, whole. -/
abbrev EU : Emb (UR sig nD τ) 𝕄 := emb₁

variable (T0 : S770.Idx → Elt F .i32) (T1 : S1.Idx → Elt F .i32) (hT : InRange T0)

/-- The tables as contents the launch admits, and the pipeline at them. -/
def adm : (pcfg0 (F := F)).Adm := ⟨tabs T0 T1, ok_tabs T0 T1 hT⟩
abbrev cfgT : Pipeline.Cfg sig Λ₀ := cfg0 (F := F) (adm T0 T1 hT)
abbrev pcsT : Fin 1 → Pipeline.Cfg sig Λ₀ := Pipeline.pin (pcfgs (F := F)) fun _ => adm T0 T1 hT

variable (m : (ℓ : Loc nD τ sig) → Buf (Elt F) ℓ) (ρ : Dev nD → PrngReg)

/-- The launch memory's tables are these. -/
def Holds : Prop := ∀ c : Dev nD, m ((c : Thread nD τ).loc main_arg1) = T0 ∧ m ((c : Thread nD τ).loc main_arg2) = T1

/-! ## A step's coordinates, staging buffers and blocks -/

abbrev crd (t : Fin (cfgT T0 T1 hT).N) : grid0.Coords := (cfgT T0 T1 hT).grid.coords t

/-- The grid has one axis: a step's coordinate is its number. -/
theorem crd_val : ∀ t : Fin grid0.N, (grid0.coords t 0).val = t.val := by decide +kernel
theorem crd_eq (t : Fin (cfgT T0 T1 hT).N) : ((crd T0 T1 hT t) 0).val = t.val := crd_val t
theorem N_eq : (cfgT T0 T1 hT).N = 770 := N_0

abbrev sb0 (t : Fin (cfgT T0 T1 hT).N) : Memref sig .tc .vmem S512x1024 .bf16 := spec0_0.stage ((cfgT T0 T1 hT).slots t (0 : Fin 5))
abbrev hb0 (t : Fin (cfgT T0 T1 hT).N) : (sb0 T0 T1 hT t).IsWhole := hstage0_0 (((cfgT T0 T1 hT).slots t (0 : Fin 5)).cast nbuf0_0)
abbrev sb1 (t : Fin (cfgT T0 T1 hT).N) : Memref sig .tc .vmem S1x1024x256 .f32 := spec0_1.stage ((cfgT T0 T1 hT).slots t (1 : Fin 5))
abbrev hb1 (t : Fin (cfgT T0 T1 hT).N) : (sb1 T0 T1 hT t).IsWhole := hstage0_1 (((cfgT T0 T1 hT).slots t (1 : Fin 5)).cast nbuf0_1)
abbrev sb2 (t : Fin (cfgT T0 T1 hT).N) : Memref sig .tc .vmem S1x1024x256 .f32 := spec0_2.stage ((cfgT T0 T1 hT).slots t (2 : Fin 5))
abbrev hb2 (t : Fin (cfgT T0 T1 hT).N) : (sb2 T0 T1 hT t).IsWhole := hstage0_2 (((cfgT T0 T1 hT).slots t (2 : Fin 5)).cast nbuf0_2)
abbrev sb3 (t : Fin (cfgT T0 T1 hT).N) : Memref sig .tc .vmem S1x256x1024 .f32 := spec0_3.stage ((cfgT T0 T1 hT).slots t (3 : Fin 5))
abbrev hb3 (t : Fin (cfgT T0 T1 hT).N) : (sb3 T0 T1 hT t).IsWhole := hstage0_3 (((cfgT T0 T1 hT).slots t (3 : Fin 5)).cast nbuf0_3)
abbrev sb4 (t : Fin (cfgT T0 T1 hT).N) : Memref sig .tc .vmem S512x1024 .bf16 := spec0_4.stage ((cfgT T0 T1 hT).slots t (4 : Fin 5))
abbrev hb4 (t : Fin (cfgT T0 T1 hT).N) : (sb4 T0 T1 hT t).IsWhole := hstage0_4 (((cfgT T0 T1 hT).slots t (4 : Fin 5)).cast nbuf0_4)

/-- Window `w`'s block at step `t`, of the array the launch finds. -/
def blkOf (c : Dev nD) (w : Fin (cfgT T0 T1 hT).W) (t : Fin (cfgT T0 T1 hT).N) : (((cfgT T0 T1 hT).win w).xblock (crd T0 T1 hT t)).Idx → Elt F ((cfgT T0 T1 hT).win w).elt :=
  (((cfgT T0 T1 hT).win w).blk t).view.read (Elt F) ((s₀ m ρ).mem (((cfgT T0 T1 hT).win w).arr.view.loc (c : Thread nD τ)))

/-- The four blocks, at their literal types: the rows, and the three weights of the step's expert. -/
abbrev xB (c : Dev nD) (t : Fin (cfgT T0 T1 hT).N) : S512x1024.Idx → Elt F .bf16 := blkOf T0 T1 hT m ρ c (0 : Fin 5) t
abbrev gB (c : Dev nD) (t : Fin (cfgT T0 T1 hT).N) : S1x1024x256.Idx → Elt F .f32 := blkOf T0 T1 hT m ρ c (1 : Fin 5) t
abbrev uB (c : Dev nD) (t : Fin (cfgT T0 T1 hT).N) : S1x1024x256.Idx → Elt F .f32 := blkOf T0 T1 hT m ρ c (2 : Fin 5) t
abbrev dB (c : Dev nD) (t : Fin (cfgT T0 T1 hT).N) : S1x256x1024.Idx → Elt F .f32 := blkOf T0 T1 hT m ρ c (3 : Fin 5) t

/-- The expert of step `t`'s block. -/
def expOf (t : Fin (cfgT T0 T1 hT).N) : Fin 256 := ⟨(T0 (ePos t.val (by have := t.isLt; have := N_eq T0 T1 hT; omega)) : BitVec 32).toNat, hT _⟩

theorem exp_ix (t : Fin (cfgT T0 T1 hT).N) :
    (![(T0 (ePos ((crd T0 T1 hT t) 0).val (crd_lt (crd T0 T1 hT t))) : BitVec 32).toNat, 0, 0] : Fin 3 → ℕ) = ![(expOf T0 T1 hT t).val, 0, 0] := by
  have e : ePos ((crd T0 T1 hT t) 0).val (crd_lt (crd T0 T1 hT t)) = ePos t.val (by have := t.isLt; have := N_eq T0 T1 hT; omega) := by
    congr 1; exact crd_eq T0 T1 hT t
  rw [e]; rfl

/-- The index maps of the rows, the weights and the result at a step. -/
theorem ix_0 (t : Fin (cfgT T0 T1 hT).N) : ((pcfg0 (F := F)).win (adm T0 T1 hT) (0 : Fin 5)).index t = ![lastOf T1 t.val, 0] :=
  (transform_0_eq T0 T1 (crd T0 T1 hT t)).trans (by rw [crd_eq])
theorem ix_1 (t : Fin (cfgT T0 T1 hT).N) : ((pcfg0 (F := F)).win (adm T0 T1 hT) (1 : Fin 5)).index t = ![(expOf T0 T1 hT t).val, 0, 0] :=
  (transform_1_eq T0 T1 (crd T0 T1 hT t)).trans (exp_ix T0 T1 hT t)
theorem ix_2 (t : Fin (cfgT T0 T1 hT).N) : ((pcfg0 (F := F)).win (adm T0 T1 hT) (2 : Fin 5)).index t = ![(expOf T0 T1 hT t).val, 0, 0] :=
  (transform_2_eq T0 T1 (crd T0 T1 hT t)).trans (exp_ix T0 T1 hT t)
theorem ix_3 (t : Fin (cfgT T0 T1 hT).N) : ((pcfg0 (F := F)).win (adm T0 T1 hT) (3 : Fin 5)).index t = ![(expOf T0 T1 hT t).val, 0, 0] :=
  (transform_3_eq T0 T1 (crd T0 T1 hT t)).trans (exp_ix T0 T1 hT t)
theorem ix_4 (t : Fin (cfgT T0 T1 hT).N) : ((pcfg0 (F := F)).win (adm T0 T1 hT) (4 : Fin 5)).index t = ![t.val, 0] :=
  (transform_4_eq (crd T0 T1 hT t)).trans (by rw [crd_eq])

/-- A weight block is the expert's slice of the weight array; the block of rows is the rows from the block's first on. -/
theorem gB_apply (c : Dev nD) (t : Fin (cfgT T0 T1 hT).N) (a : Fin 1) (k : Fin 1024) (o : Fin 256) :
    gB T0 T1 hT m ρ c t (ix3 a k o) = m ((c : Thread nD τ).loc main_arg3) (ix3 (expOf T0 T1 hT t) k o) := by
  have h0 := congrFun (ix_1 T0 T1 hT t) 0; have h1 := congrFun (ix_1 T0 T1 hT t) 1; have h2 := congrFun (ix_1 T0 T1 hT t) 2
  blk_ext [blkOf]
  · exact h0
  · exact (congrArg (· * _ + _) h1).trans (by simp)
  · exact (congrArg (· * _ + _) h2).trans (by simp)
theorem uB_apply (c : Dev nD) (t : Fin (cfgT T0 T1 hT).N) (a : Fin 1) (k : Fin 1024) (o : Fin 256) :
    uB T0 T1 hT m ρ c t (ix3 a k o) = m ((c : Thread nD τ).loc main_arg4) (ix3 (expOf T0 T1 hT t) k o) := by
  have h0 := congrFun (ix_2 T0 T1 hT t) 0; have h1 := congrFun (ix_2 T0 T1 hT t) 1; have h2 := congrFun (ix_2 T0 T1 hT t) 2
  blk_ext [blkOf]
  · exact h0
  · exact (congrArg (· * _ + _) h1).trans (by simp)
  · exact (congrArg (· * _ + _) h2).trans (by simp)
theorem dB_apply (c : Dev nD) (t : Fin (cfgT T0 T1 hT).N) (a : Fin 1) (k : Fin 256) (o : Fin 1024) :
    dB T0 T1 hT m ρ c t (ix3 a k o) = m ((c : Thread nD τ).loc main_arg5) (ix3 (expOf T0 T1 hT t) k o) := by
  have h0 := congrFun (ix_3 T0 T1 hT t) 0; have h1 := congrFun (ix_3 T0 T1 hT t) 1; have h2 := congrFun (ix_3 T0 T1 hT t) 2
  blk_ext [blkOf]
  · exact h0
  · exact (congrArg (· * _ + _) h1).trans (by simp)
  · exact (congrArg (· * _ + _) h2).trans (by simp)
theorem xB_apply (c : Dev nD) (t : Fin (cfgT T0 T1 hT).N) (a : Fin 512) (k : Fin 1024) (h : lastOf T1 t.val * 512 + a.val < 394240) :
    xB T0 T1 hT m ρ c t (ix2 a k) = m ((c : Thread nD τ).loc main_arg0) (ix2 ⟨lastOf T1 t.val * 512 + a.val, h⟩ k) := by
  have h0 := congrFun (ix_0 T0 T1 hT t) 0; have h1 := congrFun (ix_0 T0 T1 hT t) 1
  blk_ext [blkOf]
  · exact congrArg (· * 512 + a.val) h0
  · exact (congrArg (· * _ + _) h1).trans (by simp)

/-- Two steps of one expert have the same weight blocks. -/
theorem gB_congr (c : Dev nD) {s t : Fin (cfgT T0 T1 hT).N} (h : expOf T0 T1 hT s = expOf T0 T1 hT t) : gB T0 T1 hT m ρ c s = gB T0 T1 hT m ρ c t := by
  funext y; idx_vars y; rw [gB_apply, gB_apply, h]
theorem uB_congr (c : Dev nD) {s t : Fin (cfgT T0 T1 hT).N} (h : expOf T0 T1 hT s = expOf T0 T1 hT t) : uB T0 T1 hT m ρ c s = uB T0 T1 hT m ρ c t := by
  funext y; idx_vars y; rw [uB_apply, uB_apply, h]
theorem dB_congr (c : Dev nD) {s t : Fin (cfgT T0 T1 hT).N} (h : expOf T0 T1 hT s = expOf T0 T1 hT t) : dB T0 T1 hT m ρ c s = dB T0 T1 hT m ρ c t := by
  funext y; idx_vars y; rw [dB_apply, dB_apply, h]

/-! ## What a step leaves -/

/-- The three weights of step `t`'s expert, as the steps keep them. -/
abbrev gK (c : Dev nD) (t : Fin (cfgT T0 T1 hT).N) : S1024x256.Idx → Elt F .bf16 := k0_pay1 (gB T0 T1 hT m ρ c t)
abbrev uK (c : Dev nD) (t : Fin (cfgT T0 T1 hT).N) : S1024x256.Idx → Elt F .bf16 := k0_pay2 (uB T0 T1 hT m ρ c t)
abbrev dK (c : Dev nD) (t : Fin (cfgT T0 T1 hT).N) : S256x1024.Idx → Elt F .bf16 := k0_pay3 (dB T0 T1 hT m ρ c t)

/-- The result block of step `t`: a used block's rows through its expert's weights, zeros for an unused block. -/
def outB (c : Dev nD) (t : Fin (cfgT T0 T1 hT).N) : S512x1024.Idx → Elt F .bf16 :=
  if Used T1 t.val then k0_pay4 (xB T0 T1 hT m ρ c t) (gK T0 T1 hT m ρ c t) (uK T0 T1 hT m ρ c t) (dK T0 T1 hT m ρ c t) else k0_pay5

/-- What is known of a kept array before step `n`: if the step before was a used block, it is that block's. -/
def Kept {α : Type} (P : Fin (cfgT T0 T1 hT).N → α) (n : ℕ) (a : α) : Prop :=
  ∀ s : Fin (cfgT T0 T1 hT).N, s.val + 1 = n → Used T1 s.val → a = P s

theorem kept_zero {α : Type} (P : Fin (cfgT T0 T1 hT).N → α) (a : α) : Kept T0 T1 hT P 0 a := fun s h _ => absurd h (Nat.succ_ne_zero _)
theorem kept_here {α : Type} (P : Fin (cfgT T0 T1 hT).N → α) (t : Fin (cfgT T0 T1 hT).N) (a : α) (h : a = P t) : Kept T0 T1 hT P (t.val + 1) a :=
  fun s hs _ => by obtain rfl : s = t := Fin.ext (Nat.succ.inj hs); exact h
theorem kept_unused {α : Type} (P : Fin (cfgT T0 T1 hT).N → α) (t : Fin (cfgT T0 T1 hT).N) (a : α) (h : ¬ Used T1 t.val) : Kept T0 T1 hT P (t.val + 1) a :=
  fun s hs hu => by obtain rfl : s = t := Fin.ext (Nat.succ.inj hs); exact absurd hu h

/-- At a used block whose weights are not read anew, the step before was a used block of the same expert. -/
theorem before_kept (t : Fin (cfgT T0 T1 hT).N) (hu : Used T1 t.val) (hf : ¬ freshCond (crd T0 T1 hT t) T0 = 1#1) :
    ∃ s : Fin (cfgT T0 T1 hT).N, s.val + 1 = t.val ∧ Used T1 s.val ∧ expOf T0 T1 hT s = expOf T0 T1 hT t := by
  have hlt : t.val < 770 := Nat.lt_of_lt_of_eq t.isLt (N_eq T0 T1 hT)
  obtain ⟨h0, he⟩ := not_fresh (crd T0 T1 hT t) T0 hf
  have hc := crd_eq T0 T1 hT t
  have h0' : t.val ≠ 0 := fun h => h0 (hc.trans h)
  have hs : t.val - 1 + 1 = t.val := Nat.succ_pred_eq_of_ne_zero h0'
  refine ⟨⟨t.val - 1, by have := t.isLt; omega⟩, hs, used_pred T1 (hs.symm ▸ hlt) (hs.symm ▸ hu), ?_⟩
  have e1 : ePos ((crd T0 T1 hT t) 0).val (crd_lt (crd T0 T1 hT t)) = ePos t.val hlt := by congr 1
  have e2 : ePos (((crd T0 T1 hT t) 0).val - 1) (by have := crd_lt (crd T0 T1 hT t); omega) = ePos (t.val - 1) (by omega) := by
    congr 1; exact congrArg (· - 1) hc
  rw [e1, e2] at he
  have e : (T0 (ePos (t.val - 1) (by omega)) : BitVec 32).toNat = (T0 (ePos t.val hlt) : BitVec 32).toNat := by rw [he]
  exact Fin.ext e

/-! ## The pipeline's data -/

/-- What is held between steps: the kept weights, as far as known, and half of each table. -/
def Inv (c : Dev nD) (n : ℕ) : sProp 𝕄 :=
  iprop((∃ a, ⌜Kept T0 T1 hT (gK T0 T1 hT m ρ c) n a⌝ ∗ (wgM.view.loc (c : Thread nD τ) ↦{fullShare} a))
    ∗ (∃ a, ⌜Kept T0 T1 hT (uK T0 T1 hT m ρ c) n a⌝ ∗ (wuM.view.loc (c : Thread nD τ) ↦{fullShare} a))
    ∗ (∃ a, ⌜Kept T0 T1 hT (dK T0 T1 hT m ρ c) n a⌝ ∗ (wdM.view.loc (c : Thread nD τ) ↦{fullShare} a))
    ∗ (beM.view.loc (c : Thread nD τ) ↦{fullShare.right} T0) ∗ (nbM.view.loc (c : Thread nD τ) ↦{fullShare.right} T1))

/-- The one pipeline on core `c`: the arrays it finds, what each step leaves in each window, what is held in between. -/
def dat (_ : Fin 1) (c : Dev nD) : Dat τ (Elt F) Unit ℕ (UR sig nD τ) ℕ (cfgT T0 T1 hT) c where
  A w := (s₀ m ρ).mem (((cfgT T0 T1 hT).win w).arr.view.loc (c : Thread nD τ))
  after w t := match w with
    | ⟨0, _⟩ => blkOf T0 T1 hT m ρ c (0 : Fin 5) t
    | ⟨1, _⟩ => blkOf T0 T1 hT m ρ c (1 : Fin 5) t
    | ⟨2, _⟩ => blkOf T0 T1 hT m ρ c (2 : Fin 5) t
    | ⟨3, _⟩ => blkOf T0 T1 hT m ρ c (3 : Fin 5) t
    | ⟨4, _⟩ => outB T0 T1 hT m ρ c t
  Φ t := Inv T0 T1 hT m ρ c t.val
  q _ := fullShare
  owed _ := 0

theorem after_0 (c : Dev nD) (t : Fin (cfgT T0 T1 hT).N) : (dat T0 T1 hT m ρ 0 c).after (0 : Fin 5) t = blkOf T0 T1 hT m ρ c (0 : Fin 5) t := rfl
theorem after_1 (c : Dev nD) (t : Fin (cfgT T0 T1 hT).N) : (dat T0 T1 hT m ρ 0 c).after (1 : Fin 5) t = blkOf T0 T1 hT m ρ c (1 : Fin 5) t := rfl
theorem after_2 (c : Dev nD) (t : Fin (cfgT T0 T1 hT).N) : (dat T0 T1 hT m ρ 0 c).after (2 : Fin 5) t = blkOf T0 T1 hT m ρ c (2 : Fin 5) t := rfl
theorem after_3 (c : Dev nD) (t : Fin (cfgT T0 T1 hT).N) : (dat T0 T1 hT m ρ 0 c).after (3 : Fin 5) t = blkOf T0 T1 hT m ρ c (3 : Fin 5) t := rfl
theorem after_4 (c : Dev nD) (t : Fin (cfgT T0 T1 hT).N) : (dat T0 T1 hT m ρ 0 c).after (4 : Fin 5) t = outB T0 T1 hT m ρ c t := rfl

/-- The four inputs hold their blocks whenever a step runs. -/
theorem before_0 (c : Dev nD) (t : Fin (cfgT T0 T1 hT).N) (d) : (dat T0 T1 hT m ρ 0 c).before (0 : Fin 5) t d = blkOf T0 T1 hT m ρ c (0 : Fin 5) t :=
  ((dat T0 T1 hT m ρ 0 c).before_in_eq_fetched (0 : Fin 5) rfl (fun _ => rfl) (fun _ _ _ => rfl) (fun t => by rw [after_0]; unfold Dat.blockOf blkOf; rfl) t d).trans
    (by unfold Dat.fetched Dat.blockOf blkOf; rfl)
theorem before_1 (c : Dev nD) (t : Fin (cfgT T0 T1 hT).N) (d) : (dat T0 T1 hT m ρ 0 c).before (1 : Fin 5) t d = blkOf T0 T1 hT m ρ c (1 : Fin 5) t :=
  ((dat T0 T1 hT m ρ 0 c).before_in_eq_fetched (1 : Fin 5) rfl (fun _ => rfl) (fun _ _ _ => rfl) (fun t => by rw [after_1]; unfold Dat.blockOf blkOf; rfl) t d).trans
    (by unfold Dat.fetched Dat.blockOf blkOf; rfl)
theorem before_2 (c : Dev nD) (t : Fin (cfgT T0 T1 hT).N) (d) : (dat T0 T1 hT m ρ 0 c).before (2 : Fin 5) t d = blkOf T0 T1 hT m ρ c (2 : Fin 5) t :=
  ((dat T0 T1 hT m ρ 0 c).before_in_eq_fetched (2 : Fin 5) rfl (fun _ => rfl) (fun _ _ _ => rfl) (fun t => by rw [after_2]; unfold Dat.blockOf blkOf; rfl) t d).trans
    (by unfold Dat.fetched Dat.blockOf blkOf; rfl)
theorem before_3 (c : Dev nD) (t : Fin (cfgT T0 T1 hT).N) (d) : (dat T0 T1 hT m ρ 0 c).before (3 : Fin 5) t d = blkOf T0 T1 hT m ρ c (3 : Fin 5) t :=
  ((dat T0 T1 hT m ρ 0 c).before_in_eq_fetched (3 : Fin 5) rfl (fun _ => rfl) (fun _ _ _ => rfl) (fun t => by rw [after_3]; unfold Dat.blockOf blkOf; rfl) t d).trans
    (by unfold Dat.fetched Dat.blockOf blkOf; rfl)

/-! ## One step keeps what is held -/

/-- The step as the pipeline calls it. -/
abbrev stepAt (t : Fin (cfgT T0 T1 hT).N) : Prog (TpuEff nD τ sig (Elt F) Λ₀ .tc) PUnit :=
  stepProg (crd T0 T1 hT t) (sb0 T0 T1 hT t) (hb0 T0 T1 hT t) (sb1 T0 T1 hT t) (hb1 T0 T1 hT t) (sb2 T0 T1 hT t) (hb2 T0 T1 hT t) (sb3 T0 T1 hT t) (hb3 T0 T1 hT t) (sb4 T0 T1 hT t) (hb4 T0 T1 hT t)

/-- The output window is stored at every step. -/
theorem idle_win4 (t : Fin (cfgT T0 T1 hT).N) : (cfgT T0 T1 hT).idle (4 : Fin 5) ((cfgT T0 T1 hT).grid.coords t) = false :=
  idle_4 T0 T1 (crd T0 T1 hT t)

set_option maxHeartbeats 4000000 in
/-- From what is held before step `t` and its blocks, the step leaves what is held after it, the input blocks as they
    were and its result block. -/
theorem step_sound (c : Dev nD) (t : Fin (cfgT T0 T1 hT).N) :
    iprop((dat T0 T1 hT m ρ 0 c).Φ t.castSucc ∗ (dat T0 T1 hT m ρ 0 c).owesAt () t.castSucc
        ∗ (∃ d, owns (c : Thread nD τ) (sb0 T0 T1 hT t) fullShare ((dat T0 T1 hT m ρ 0 c).before (0 : Fin 5) t d))
        ∗ (∃ d, owns (c : Thread nD τ) (sb1 T0 T1 hT t) fullShare ((dat T0 T1 hT m ρ 0 c).before (1 : Fin 5) t d))
        ∗ (∃ d, owns (c : Thread nD τ) (sb2 T0 T1 hT t) fullShare ((dat T0 T1 hT m ρ 0 c).before (2 : Fin 5) t d))
        ∗ (∃ d, owns (c : Thread nD τ) (sb3 T0 T1 hT t) fullShare ((dat T0 T1 hT m ρ 0 c).before (3 : Fin 5) t d))
        ∗ (∃ d, owns (c : Thread nD τ) (sb4 T0 T1 hT t) fullShare ((dat T0 T1 hT m ρ 0 c).before (4 : Fin 5) t d)))
      ⊢ wp frame (wpE (defs₀ (F := F)) Variants.none c none) Set.univ (stepAt T0 T1 hT t) fun _ =>
          iprop((dat T0 T1 hT m ρ 0 c).Φ t.succ ∗ (dat T0 T1 hT m ρ 0 c).owesAt () t.succ
            ∗ bigSep Finset.univ fun w : Fin (cfgT T0 T1 hT).W =>
                match (cfgT T0 T1 hT).idle w ((cfgT T0 T1 hT).grid.coords t) with
                | true =>
                  match ((cfgT T0 T1 hT).win w).flush t with
                  | false => iprop(∃ d, owns (c : Thread nD τ) (((cfgT T0 T1 hT).win w).stage ((cfgT T0 T1 hT).slots t w)) fullShare ((dat T0 T1 hT m ρ 0 c).before w t d))
                  | true => owns (c : Thread nD τ) (((cfgT T0 T1 hT).win w).stage ((cfgT T0 T1 hT).slots t w)) fullShare ((dat T0 T1 hT m ρ 0 c).after w t)
                | false => owns (c : Thread nD τ) (((cfgT T0 T1 hT).win w).stage ((cfgT T0 T1 hT).slots t w)) fullShare ((dat T0 T1 hT m ρ 0 c).after w t)) := by
  rw [bigSep_W0]
  rewrite [idle_win4]
  simp only [before_0, before_1, before_2, before_3, after_0, after_1, after_2, after_3, after_4]
  rewrite [show (dat T0 T1 hT m ρ 0 c).Φ t.succ = Inv T0 T1 hT m ρ c (t.val + 1) from rfl, show (dat T0 T1 hT m ρ 0 c).Φ t.castSucc = Inv T0 T1 hT m ρ c t.val from rfl,
    show (dat T0 T1 hT m ρ 0 c).owesAt () t.succ = (dat T0 T1 hT m ρ 0 c).owesAt () t.castSucc from rfl]
  have hc := crd_eq T0 T1 hT t
  unfold Inv
  iintro ⟨⟨⟨%a0, %ha0, HS0⟩, ⟨%a1, %ha1, HS1⟩, ⟨%a2, %ha2, HS2⟩, HT0, HT1⟩, Ho, ⟨%d0, H0⟩, ⟨%d1, H1⟩, ⟨%d2, H2⟩, ⟨%d3, H3⟩, ⟨%d4, H4⟩⟩
  by_cases hu : Used T1 t.val
  · have h1 : k0_cond1 (crd T0 T1 hT t) (nbWord T1) = 1#1 := (cond1_used _ T1).2 (by rw [hc]; exact hu)
    have h3 : ¬ k0_cond3 (crd T0 T1 hT t) (nbWord T1) = 1#1 := fun h => (cond3_used _ T1).1 h (by rw [hc]; exact hu)
    by_cases h2 : freshCond (crd T0 T1 hT t) T0 = 1#1
    · iapply (step_fresh c (crd T0 T1 hT t) (sb0 T0 T1 hT t) (hb0 T0 T1 hT t) (sb1 T0 T1 hT t) (hb1 T0 T1 hT t) (sb2 T0 T1 hT t) (hb2 T0 T1 hT t) (sb3 T0 T1 hT t) (hb3 T0 T1 hT t) (sb4 T0 T1 hT t) (hb4 T0 T1 hT t) T0 T1
        (xB T0 T1 hT m ρ c t) (gB T0 T1 hT m ρ c t) (uB T0 T1 hT m ρ c t) (dB T0 T1 hT m ρ c t) h1 h2 h3 _)
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexists _; iexact HS0
      isplitl [HS1]; · iexists _; iexact HS1
      isplitl [HS2]; · iexists _; iexact HS2
      iintro ⟨⟨H0, H1, H2, H3, HT0, HT1⟩, H4, ⟨%b0, %hb0, HS0⟩, ⟨%b1, %hb1, HS1⟩, ⟨%b2, %hb2, HS2⟩⟩
      isplitl [HS0 HS1 HS2 HT0 HT1]
      · isplitl [HS0]
        · iexists b0; isplitr; swap
          · iexact HS0
          · ipureintro; exact kept_here T0 T1 hT _ t b0 hb0
        isplitl [HS1]
        · iexists b1; isplitr; swap
          · iexact HS1
          · ipureintro; exact kept_here T0 T1 hT _ t b1 hb1
        isplitl [HS2]
        · iexists b2; isplitr; swap
          · iexact HS2
          · ipureintro; exact kept_here T0 T1 hT _ t b2 hb2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold outB; rw [if_pos hu]; iexact H4
    · obtain ⟨s, hs, hus, hes⟩ := before_kept T0 T1 hT t hu h2
      have g0 : a0 = gK T0 T1 hT m ρ c t := (ha0 s hs hus).trans (congrArg k0_pay1 (gB_congr T0 T1 hT m ρ c hes))
      have g1 : a1 = uK T0 T1 hT m ρ c t := (ha1 s hs hus).trans (congrArg k0_pay2 (uB_congr T0 T1 hT m ρ c hes))
      have g2 : a2 = dK T0 T1 hT m ρ c t := (ha2 s hs hus).trans (congrArg k0_pay3 (dB_congr T0 T1 hT m ρ c hes))
      iapply (step_kept c (crd T0 T1 hT t) (sb0 T0 T1 hT t) (hb0 T0 T1 hT t) (sb1 T0 T1 hT t) (hb1 T0 T1 hT t) (sb2 T0 T1 hT t) (hb2 T0 T1 hT t) (sb3 T0 T1 hT t) (hb3 T0 T1 hT t) (sb4 T0 T1 hT t) (hb4 T0 T1 hT t) T0 T1
        (xB T0 T1 hT m ρ c t) (gB T0 T1 hT m ρ c t) (uB T0 T1 hT m ρ c t) (dB T0 T1 hT m ρ c t) a0 a1 a2 h1 h2 h3 _)
      isplitl [H0 H1 H2 H3 HT0 HT1]
      · isplitl [H0]; · iapply rep_of_owns; iexact H0
        isplitl [H1]; · iapply rep_of_owns; iexact H1
        isplitl [H2]; · iapply rep_of_owns; iexact H2
        isplitl [H3]; · iapply rep_of_owns; iexact H3
        isplitl [HT0]; · iexact HT0
        iexact HT1
      isplitl [H4]; · iexists _; iexact H4
      isplitl [HS0]; · iexact HS0
      isplitl [HS1]; · iexact HS1
      isplitl [HS2]; · iexact HS2
      iintro ⟨⟨H0, H1, H2, H3, HT0, HT1⟩, H4, HS0, HS1, HS2⟩
      isplitl [HS0 HS1 HS2 HT0 HT1]
      · isplitl [HS0]
        · iexists a0; isplitr; swap
          · iexact HS0
          · ipureintro; exact kept_here T0 T1 hT _ t a0 g0
        isplitl [HS1]
        · iexists a1; isplitr; swap
          · iexact HS1
          · ipureintro; exact kept_here T0 T1 hT _ t a1 g1
        isplitl [HS2]
        · iexists a2; isplitr; swap
          · iexact HS2
          · ipureintro; exact kept_here T0 T1 hT _ t a2 g2
        isplitl [HT0]; · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold outB; rw [if_pos hu, ← g0, ← g1, ← g2]; iexact H4
  · have h1 : ¬ k0_cond1 (crd T0 T1 hT t) (nbWord T1) = 1#1 := fun h => hu (by rw [← hc]; exact (cond1_used _ T1).1 h)
    have h3 : k0_cond3 (crd T0 T1 hT t) (nbWord T1) = 1#1 := (cond3_used _ T1).2 (by rw [hc]; exact hu)
    iapply (step_unused c (crd T0 T1 hT t) (sb0 T0 T1 hT t) (hb0 T0 T1 hT t) (sb1 T0 T1 hT t) (hb1 T0 T1 hT t) (sb2 T0 T1 hT t) (hb2 T0 T1 hT t) (sb3 T0 T1 hT t) (hb3 T0 T1 hT t) (sb4 T0 T1 hT t) (hb4 T0 T1 hT t) T0 T1
      (xB T0 T1 hT m ρ c t) (gB T0 T1 hT m ρ c t) (uB T0 T1 hT m ρ c t) (dB T0 T1 hT m ρ c t) a0 a1 a2 h1 h3 _)
    isplitl [H0 H1 H2 H3 HT0 HT1]
    · isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      iexact HT1
    isplitl [H4]; · iexists _; iexact H4
    isplitl [HS0]; · iexact HS0
    isplitl [HS1]; · iexact HS1
    isplitl [HS2]; · iexact HS2
    iintro ⟨⟨H0, H1, H2, H3, HT0, HT1⟩, H4, HS0, HS1, HS2⟩
    isplitl [HS0 HS1 HS2 HT0 HT1]
    · isplitl [HS0]
      · iexists a0; isplitr; swap
        · iexact HS0
        · ipureintro; exact kept_unused T0 T1 hT _ t a0 hu
      isplitl [HS1]
      · iexists a1; isplitr; swap
        · iexact HS1
        · ipureintro; exact kept_unused T0 T1 hT _ t a1 hu
      isplitl [HS2]
      · iexists a2; isplitr; swap
        · iexact HS2
        · ipureintro; exact kept_unused T0 T1 hT _ t a2 hu
      isplitl [HT0]; · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold outB; rw [if_neg hu]; iexact H4

/-- So every step meets what the pipeline asks of it. -/
theorem obligation (c : Dev nD) : BodyObligation (dat T0 T1 hT m ρ 0 c) (defs₀ (F := F)) Variants.none () Set.univ := fun t => by
  rw [bigSep_W0]
  exact step_sound T0 T1 hT m ρ c t

/-! ## The launch -/

/-- The launch's share of the staging cells' algebra. -/
def uInit : UR sig nD τ :=
  initOf (Pipeline.cells (pcsT T0 T1 hT) ((launch0 (F := F)).cellOf_inj fun _ => adm T0 T1 hT))
    (Pipeline.launchToks (pcsT T0 T1 hT) ((launch0 (F := F)).cellOf_inj fun _ => adm T0 T1 hT))

theorem share_full (c : Dev nD) (w : Fin (cfgT T0 T1 hT).W) : (dat T0 T1 hT m ρ 0 c).share w = fullShare := by unfold Dat.share; split <;> rfl

/-- The two tables, one by one. -/
theorem tables_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg1) ↦{q 0} v 0) ∗ (((c : Thread nD τ).loc main_arg2) ↦{q 1} v 1)) := by
  unfold Pipeline.prefHeld
  rw [show (Finset.univ : Finset (Fin 2)) = insert (0 : Fin 2) {(1 : Fin 2)} from by decide,
    bigSep_insert (by decide), bigSep_singleton]
  rfl

/-- What is held before the first step, from the tables and the scratch buffers at anything. -/
theorem inv_intro (c : Dev nD) :
    iprop(BI.emp ∗ Pipeline.prefHeld pre0 c (fun _ => fullShare.right) (adm T0 T1 hT).1 ∗ Pipeline.scopedRest spec0 c) ⊢ (dat T0 T1 hT m ρ 0 c).Φ 0 := by
  rw [tables_eq, scopedRest0_eq, show (dat T0 T1 hT m ρ 0 c).Φ 0 = Inv T0 T1 hT m ρ c 0 from rfl]
  unfold Inv
  iintro ⟨-, ⟨HT0, HT1⟩, ⟨%a0, HS0⟩, ⟨%a1, HS1⟩, ⟨%a2, HS2⟩⟩
  isplitl [HS0]
  · iexists a0; isplitr; swap
    · iexact HS0
    · ipureintro; exact kept_zero T0 T1 hT _ a0
  isplitl [HS1]
  · iexists a1; isplitr; swap
    · iexact HS1
    · ipureintro; exact kept_zero T0 T1 hT _ a1
  isplitl [HS2]
  · iexists a2; isplitr; swap
    · iexact HS2
    · ipureintro; exact kept_zero T0 T1 hT _ a2
  isplitl [HT0]
  · iexact HT0
  iexact HT1

/-- After the last step the scratch buffers are given back. -/
theorem inv_exit (c : Dev nD) : (dat T0 T1 hT m ρ 0 c).Φ (Fin.last (cfgT T0 T1 hT).N) ⊢ iprop(BI.emp ∗ Pipeline.scopedRest spec0 c) := by
  rw [scopedRest0_eq, show (dat T0 T1 hT m ρ 0 c).Φ (Fin.last (cfgT T0 T1 hT).N) = Inv T0 T1 hT m ρ c (cfgT T0 T1 hT).N from rfl]
  unfold Inv
  iintro ⟨⟨%a0, -, HS0⟩, ⟨%a1, -, HS1⟩, ⟨%a2, -, HS2⟩, -, -⟩
  isplitr; · iempintro
  isplitl [HS0]
  · iexists a0; iexact HS0
  isplitl [HS1]
  · iexists a1; iexact HS1
  iexists a2; iexact HS2

/-- What the launch leaves: each window's array at the computed contents, each table as it was. -/
def Left : PUnit × MemSt nD τ sig (Elt F) → Prop := fun r =>
  ∀ c : Dev nD, (∀ w : Fin (cfgT T0 T1 hT).W, r.2.mem (((cfgT T0 T1 hT).win w).arr.view.loc (c : Thread nD τ)) = (dat T0 T1 hT m ρ 0 c).arrAt w (cfgT T0 T1 hT).N)
    ∧ ∀ j, r.2.mem ((c : Thread nD τ).loc (pre0.ref j)) = (adm T0 T1 hT).1 j

theorem tables_held (hm : Holds T0 T1 m) (c : Dev nD) (j : Fin 2) : m ((c : Thread nD τ).loc (pre0.ref j)) = (adm T0 T1 hT).1 j := by
  fin_cases j
  · exact (hm c).1
  · exact (hm c).2

set_option backward.isDefEq.respectTransparency.types false in
set_option maxHeartbeats 4000000 in
/-- Every weakly fair execution from a memory with these tables terminates without a fault, and every final state has the
    computed arrays, the tables unchanged and every semaphore counter at zero. -/
theorem launched (hm : Holds T0 T1 m) : θ_run (defs (F := F)) (onTc (τ := τ) (main (F := F))) (s₀ m ρ) (fun r => Left T0 T1 hT m ρ r ∧ r.2.sem = fun _ => 0) :=
  Pipeline.θ_run_region_noSem_pf_quiescent pcfgs (fun _ => adm T0 T1 hT) (dat T0 T1 hT m ρ) () ((launch0 (F := F)).cellOf_inj fun _ => adm T0 T1 hT) (0 : Fin 1)
    (launch0 (F := F)).win.to₀ (launch0 (F := F)).pre EU defs₀ Variants.none m ρ main
    (hbody := fun c => (obligation T0 T1 hT m ρ c).loose) (hne := (launch0 (F := F)).block_pos)
    (harr := (launch0 (F := F)).arr_whole) (hstage := (launch0 (F := F)).stage_whole) (howed := fun _ _ => rfl)
    (u₀ := uInit T0 T1 hT) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcsT T0 T1 hT) (dat T0 T1 hT m ρ) 0 (launch0 (F := F)).win.arr_inj c (launch0 (F := F)).arr_whole
      (share_full T0 T1 hT m ρ c) _ _ fun _ => rfl)
    (hpf := tables_held T0 T1 hT m hm)
    (X := fun _ => iprop(emp)) (Y := fun _ => iprop(emp)) (Z := fun _ => iprop(emp))
    (hX := fun c => by rw [unscopedRestP0_eq]; iintro -; isplitr <;> iempintro)
    (hin := inv_intro T0 T1 hT m ρ)
    (hout := inv_exit T0 T1 hT m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The arguments after a launch, from what it leaves. -/
def ArgsKept (r : PUnit × MemSt nD τ sig (Elt F)) : Prop := ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)

theorem args_kept (hm : Holds T0 T1 m) (r) (h : Left T0 T1 hT m ρ r) : ArgsKept m r := fun c =>
  ⟨((h c).1 (0 : Fin 5)).trans ((dat T0 T1 hT m ρ 0 c).arrAt_in (0 : Fin 5) rfl _), ((h c).2 0).trans (hm c).1.symm, ((h c).2 1).trans (hm c).2.symm,
    ((h c).1 (1 : Fin 5)).trans ((dat T0 T1 hT m ρ 0 c).arrAt_in (1 : Fin 5) rfl _), ((h c).1 (2 : Fin 5)).trans ((dat T0 T1 hT m ρ 0 c).arrAt_in (2 : Fin 5) rfl _),
    ((h c).1 (3 : Fin 5)).trans ((dat T0 T1 hT m ρ 0 c).arrAt_in (3 : Fin 5) rfl _)⟩

include hT in
/-- The launch leaves every argument array as it was and every semaphore counter at zero. -/
theorem frame_of (hm : Holds T0 T1 m) :
    θ_run (defs (F := F)) (onTc (τ := τ) (main (F := F))) ⟨m, fun _ => 0, ρ⟩ (fun r => ArgsKept m r ∧ r.2.sem = fun _ => 0) :=
  (θ_run defs _ _).mono (fun r h => ⟨args_kept T0 T1 hT m ρ hm r h.1, h.2⟩) (launched T0 T1 hT m ρ hm)

/-! ## The result array -/

/-- Every step writes its result block back. -/
theorem flush_4 (t : Fin (cfgT T0 T1 hT).N) : ((cfgT T0 T1 hT).win (4 : Fin 5)).flush t = true := by
  have hlt := t.isLt
  show (true && (decide (t.val + 1 = (cfgT T0 T1 hT).N) || decide (∃ h : t.val + 1 < (cfgT T0 T1 hT).N, ((pcfg0 (F := F)).win (adm T0 T1 hT) (4 : Fin 5)).index ⟨t.val + 1, h⟩ ≠ ((pcfg0 (F := F)).win (adm T0 T1 hT) (4 : Fin 5)).index t))) = true
  by_cases h : t.val + 1 = (cfgT T0 T1 hT).N
  · rw [decide_eq_true h]; rfl
  · have h' : t.val + 1 < (cfgT T0 T1 hT).N := by omega
    rw [Bool.true_and, Bool.or_eq_true]
    refine .inr (decide_eq_true ⟨h', fun e => ?_⟩)
    have e0 := congrFun e 0
    rw [ix_4, ix_4] at e0
    exact absurd e0 (Nat.succ_ne_self t.val)

/-- The step that computes row `r` of the result, and the row's place in its block. -/
def stepOf (r : Fin 394240) : Fin (cfgT T0 T1 hT).N := ⟨r.val / 512, by rw [N_eq]; omega⟩
def rowIn (r : Fin 394240) : Fin 512 := ⟨r.val % 512, by omega⟩

/-- The result array: row `r` is row `r % 512` of the block of step `r / 512`. -/
def resOf (c : Dev nD) : S394240x1024.Idx → Elt F .bf16 := fun i => outB T0 T1 hT m ρ c (stepOf T0 T1 hT (i 0)) (ix2 (rowIn (i 0)) (i 1))

theorem resOf_at (c : Dev nD) (t : Fin (cfgT T0 T1 hT).N) (y : S512x1024.Idx) (i : S394240x1024.Idx)
    (h0 : (i 0).val = t.val * 512 + (y 0).val) (h1 : (i 1).val = (y 1).val) : resOf T0 T1 hT m ρ c i = outB T0 T1 hT m ρ c t y := by
  have hy : (y 0).val < 512 := (y 0).isLt
  have e1 : stepOf T0 T1 hT (i 0) = t := Fin.ext (by show (i 0).val / 512 = t.val; omega)
  have e2 : ix2 (rowIn (i 0)) (i 1) = y := by
    funext a
    fin_cases a
    · exact Fin.ext (by show (i 0).val % 512 = (y 0).val; omega)
    · exact Fin.ext h1
  show outB T0 T1 hT m ρ c (stepOf T0 T1 hT (i 0)) (ix2 (rowIn (i 0)) (i 1)) = _
  rw [e1]; exact congrArg _ e2

/-- After the launch the result array is this. -/
theorem result_eq (c : Dev nD) : (dat T0 T1 hT m ρ 0 c).arrAt (4 : Fin 5) (cfgT T0 T1 hT).N = resOf T0 T1 hT m ρ c := by
  refine (dat T0 T1 hT m ρ 0 c).arrAt_eq_of_emb (4 : Fin 5) (resOf T0 T1 hT m ρ c) (fun t hf y => ?_) (fun i => ?_)
  · have e0 := congrFun (ix_4 T0 T1 hT t) 0; have e1 := congrFun (ix_4 T0 T1 hT t) 1
    symm
    refine resOf_at T0 T1 hT m ρ c t y _ ?_ ?_
    · blk_simp
      exact congrArg (· * 512 + (y 0).val) e0
    · blk_simp
      exact (congrArg (· * 1024 + (y 1).val) e1).trans (by simp)
  · refine ⟨stepOf T0 T1 hT (i 0), flush_4 T0 T1 hT _, ?_⟩
    have e0 := congrFun (ix_4 T0 T1 hT (stepOf T0 T1 hT (i 0))) 0; have e1 := congrFun (ix_4 T0 T1 hT (stepOf T0 T1 hT (i 0))) 1
    have d0 : (stepOf T0 T1 hT (i 0)).val = (i 0).val / 512 := rfl
    have b1 : (i 1).val < 1024 := (i 1).isLt
    have b0 : (i 0).val < 394240 := (i 0).isLt
    mem_blk
    change ((pcfg0 (F := F)).win (adm T0 T1 hT) (4 : Fin 5)).index (stepOf T0 T1 hT (i 0)) 0 = (stepOf T0 T1 hT (i 0)).val at e0
    change ((pcfg0 (F := F)).win (adm T0 T1 hT) (4 : Fin 5)).index (stepOf T0 T1 hT (i 0)) 1 = 0 at e1
    erw [e0, e1]
    rw [d0]
    omega

/-- Every execution ends with the result array at this, the arguments unchanged. -/
theorem value_of (hm : Holds T0 T1 m) :
    θ_run (defs (F := F)) (onTc (τ := τ) (main (F := F))) ⟨m, fun _ => 0, ρ⟩
      (fun r => (∀ c : Dev nD, r.2.mem ((c.tc : Thread nD τ).loc main_v0) = resOf T0 T1 hT m ρ c) ∧ ArgsKept m r) :=
  (θ_run defs _ _).mono (fun r h => ⟨fun c => ((h.1 c).1 (4 : Fin 5)).trans (result_eq T0 T1 hT m ρ c), args_kept T0 T1 hT m ρ hm r h.1⟩) (launched T0 T1 hT m ρ hm)

end Cert.KernelIdeal.Moe

end
-- ==== Proof.Cell.lean ====
/-
  One entry of one expert block's result, in plain sums over the extended reals, and that the kernel's payload computes it.
-/
module

public import proofs.«01_k».proof.Proof.Gen.KernelIdeal.Skeleton
public import Idealize.ShloMosaic.Lib.Pointwise

@[expose] public section

set_option maxRecDepth 16384

noncomputable section

namespace Cert.Moe

open Idealize.ShloMosaic

/-- `z · sigmoid(z)`. -/
def silu (z : EReal) : EReal := z * Ideal.div 1 (1 + Ideal.exp (-z))

/-- One entry of a row's expert output: the row's gate and up projections, `silu(gate) · up`, and one column of the down
    projection. -/
def cell (x : Fin 1024 → EReal) (g u : Fin 1024 → Fin 256 → EReal) (d : Fin 256 → EReal) : EReal :=
  ∑ e, silu (∑ k, x k * g k e) * (∑ k, x k * u k e) * d e

end Cert.Moe

namespace Cert.KernelIdeal.Moe

open Cert.KernelIdeal Cert.KernelIdeal.Gen Idealize.ShloMosaic Idealize.ShloMosaic.TcCoe Idealize.SL.Sem

/-- The payload of a used block, read at an entry. -/
theorem pay_eq_cell (x : FVec Ideal S512x1024 .bf16) (g u : FVec Ideal S1x1024x256 .f32) (d : FVec Ideal S1x256x1024 .f32)
    (a : Fin 512) (o : Fin 1024) :
    k0_pay4 (F := Ideal) x (k0_pay1 (F := Ideal) g) (k0_pay2 (F := Ideal) u) (k0_pay3 (F := Ideal) d) (ix2 a o)
      = Cert.Moe.cell (fun k => x (ix2 a k)) (fun k e => g (ix3 0 k e)) (fun k e => u (ix3 0 k e)) (fun e => d (ix3 0 e o)) := by
  pointwise [k0_pay4, k0_pay1, k0_pay2, k0_pay3, Cert.Moe.cell, Cert.Moe.silu]
  simp only [zero_sub]

/-- The payload of an unused block: zero. -/
theorem pay_zero (y : S512x1024.Idx) : k0_pay5 (F := Ideal) y = (0 : EReal) := by
  pointwise [k0_pay5]

end Cert.KernelIdeal.Moe

end
-- ==== Proof.Ref.lean ====
/-
  What the reference computes, read at one entry: the rows of block `r / 512` through the expert the table names for the
  block, or zero past the used blocks.
-/
module

public import proofs.«01_k».proof.Proof.Gen.ReferenceIdeal.Run
public import proofs.«01_k».proof.Proof.Cell

@[expose] public section

set_option maxRecDepth 16384

noncomputable section

namespace Cert.ReferenceIdeal.Moe

open Cert.ReferenceIdeal Cert.ReferenceIdeal.Gen Idealize.ShloMosaic Idealize.ShloMosaic.TcCoe Idealize.SL.Sem

/-- The table's words as start indices, a negative word counted from the end. -/
def starts (E : IVec S770 32) : IVec S770x1 32 :=
  broadcastInDim S770x1 ![0] bcast_S770_S770x1_0 (select (cmpi .slt E (broadcastInDim S770 ![] bcast_S_S770 (constantI S_ 32 0#32))) (addi E (broadcastInDim S770 ![] bcast_S_S770 (constantI S_ 32 256#32))) E)

/-- The result from the weights already gathered per block. -/
def core (X : FVec Ideal S394240x1024 .bf16) (NB : IVec S1 32) (G U : FVec Ideal S770x1024x256 .f32) (D : FVec Ideal S770x256x1024 .f32) :
    FVec Ideal S394240x1024 .bf16 :=
  truncf .bf16 (shapeCast _ (select (broadcastInDim S770x512x1024 ![0, 1, 2] bcast_S770x1x1_S770x512x1024_0_1_2 (broadcastInDim S770x1x1 ![0] bcast_S770_S770x1x1_0 (cmpi .slt (iotaInDim S770 32 0) (broadcastInDim S770 ![] bcast_S_S770 (shapeCast S_ NB shapeCasts_S1_S_)))))
    (Host.dotGeneral dot_S770x512x256_S770x256x1024_S770x512x1024_2_1_1_2_0_0 none (mulf (mulf
        (Host.dotGeneral dot_S770x512x1024_S770x1024x256_S770x512x256_2_1_1_2_0_0 none (shapeCast S770x512x1024 (extf .f32 X bitsLt_bf16_f32) shapeCasts_S394240x1024_S770x512x1024) G)
        (Host.divf (broadcastInDim S770x512x256 ![] bcast_S_S770x512x256 (constant S_ .f32 0x3F800000#32)) (addf (broadcastInDim S770x512x256 ![] bcast_S_S770x512x256 (constant S_ .f32 0x3F800000#32)) (Host.exp (Host.negf (Host.dotGeneral dot_S770x512x1024_S770x1024x256_S770x512x256_2_1_1_2_0_0 none (shapeCast S770x512x1024 (extf .f32 X bitsLt_bf16_f32) shapeCasts_S394240x1024_S770x512x1024) G))))))
        (Host.dotGeneral dot_S770x512x1024_S770x1024x256_S770x512x256_2_1_1_2_0_0 none (shapeCast S770x512x1024 (extf .f32 X bitsLt_bf16_f32) shapeCasts_S394240x1024_S770x512x1024) U)) D)
    (broadcastInDim S770x512x1024 ![] bcast_S_S770x512x1024 (id (constant S_ .f32 0x00000000#32)))) shapeCasts_S770x512x1024_S394240x1024) bitsLt_bf16_f32

/-- The reference's result from the arguments. -/
def REF (X : FVec Ideal S394240x1024 .bf16) (E : IVec S770 32) (NB : IVec S1 32) (WG WU : FVec Ideal S256x1024x256 .f32)
    (WD : FVec Ideal S256x256x1024 .f32) : FVec Ideal S394240x1024 .bf16 :=
  core X NB (Host.gather gather_S256x1024x256_S770x1_S770x1024x256_12_0_n_n_0_1_11024256 WG (starts E))
    (Host.gather gather_S256x1024x256_S770x1_S770x1024x256_12_0_n_n_0_1_11024256 WU (starts E))
    (Host.gather gather_S256x256x1024_S770x1_S770x256x1024_12_0_n_n_0_1_12561024 WD (starts E))

/-- A word below 256 names itself as a start index. -/
theorem starts_eq (E : IVec S770 32) (j : Fin 770) (h : (E (ix1 j)).toNat < 256) : starts E (ix2 j 0) = E (ix1 j) := by
  pointwise [starts]
  have e : IntOp.cmpi .slt (E (ix1 j)) 0#32 = 0#1 := by
    have : (E (ix1 j)).slt 0#32 = false := by
      simp only [BitVec.slt, BitVec.toInt_eq_toNat_cond, BitVec.toNat_ofNat, decide_eq_false_iff_not]
      omega
    show BitVec.ofBool ((E (ix1 j)).slt 0#32) = 0#1
    rw [this]; rfl
  rw [e]; rfl

/-- The result at an entry, from the gathered weights. -/
theorem core_at (X : FVec Ideal S394240x1024 .bf16) (NB : IVec S1 32) (G U : FVec Ideal S770x1024x256 .f32)
    (D : FVec Ideal S770x256x1024 .f32) (r : Fin 394240) (o : Fin 1024) (j : Fin 770) (hj : j.val = r.val / 512) :
    core X NB G U D (ix2 r o)
      = if (BitVec.ofNat 32 j.val).slt (NB (ix1 0)) = true then
          Cert.Moe.cell (fun k => X (ix2 r k)) (fun k e => G (ix3 j k e)) (fun k e => U (ix3 j k e)) (fun e => D (ix3 j e o))
        else 0 := by
  pointwise [core, Cert.Moe.cell, Cert.Moe.silu]
  have hj' : (⟨r.val / 512, by omega⟩ : Fin 770) = j := Fin.ext hj.symm
  have hz : id (constant (F := Ideal) S_ FTy.f32 0#32) ix0 = (0 : EReal) := by
    show constant (F := Ideal) S_ FTy.f32 0#32 ix0 = (0 : EReal)
    pointwise
  rw [hz, hj', ← hj]
  show (if BitVec.ofBool ((BitVec.ofNat 32 j.val).slt (NB (ix1 0))) = 1#1 then _ else _) = _
  cases (BitVec.ofNat 32 j.val).slt (NB (ix1 0)) <;> rfl

/-- The dimension numbers of a gather of whole `p × q` matrices out of `n` of them, one start index per result matrix. -/
abbrev matDims (n p q B : ℕ) (wf : GatherDims.WF ⟨3, ![n, p, q]⟩ ⟨2, ![B, 1]⟩ ⟨3, ![B, p, q]⟩ [1, 2] [0] [] [0] [] 1 ![1, p, q]) :
    GatherDims ⟨3, ![n, p, q]⟩ ⟨2, ![B, 1]⟩ ⟨3, ![B, p, q]⟩ where
  offsetDims := [1, 2]
  collapsedSliceDims := [0]
  operandBatchingDims := []
  startIndicesBatchingDims := []
  startIndexMap := [0]
  indexVectorDim := 1
  sliceSizes := ![1, p, q]
  wf := wf

/-- A gather of whole matrices: entry `(j, k, e)` of the result is entry `(k, e)` of the matrix that word `j` names. -/
theorem gather_mat {n p q B : ℕ} (wf : GatherDims.WF ⟨3, ![n, p, q]⟩ ⟨2, ![B, 1]⟩ ⟨3, ![B, p, q]⟩ [1, 2] [0] [] [0] [] 1 ![1, p, q])
    {α : Type} (W : (⟨3, ![n, p, q]⟩ : Shape).Idx → α) (I : IVec ⟨2, ![B, 1]⟩ 32) (j : Fin B) (k : Fin p) (e : Fin q)
    (b : Fin n) (hb : (I (ix2 j 0)).toNat = b.val) (hn : n ≤ 2 ^ 31) :
    Host.gather (matDims n p q B wf) W I (ix3 j k e) = W (ix3 b k e) := by
  have hI : (I (ix2 j 0)).toInt.toNat = b.val := by
    have := b.isLt
    rw [BitVec.toInt_eq_toNat_cond]; split <;> omega
  unfold Host.gather
  refine congrArg W (funext fun a => Fin.ext ?_)
  show (matDims n p q B wf).start (ix3 j k e) I a + (matDims n p q B wf).batchCoord (ix3 j k e) a + (matDims n p q B wf).offCoord (ix3 j k e) a = _
  have hs : ∀ a' : Fin 3, a' ≠ 0 → (matDims n p q B wf).start (ix3 j k e) I a' = 0 := fun a' h => by
    unfold GatherDims.start
    rw [dif_neg (fun m => h (List.mem_singleton.1 m))]
  rw [GatherDims.batchCoord_eq_zero _ _ _ List.not_mem_nil, Nat.add_zero]
  have h012 : a = 0 ∨ a = 1 ∨ a = 2 := by
    match a with
    | ⟨0, _⟩ => exact .inl rfl
    | ⟨1, _⟩ => exact .inr (.inl rfl)
    | ⟨2, _⟩ => exact .inr (.inr rfl)
  rcases h012 with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (matDims n p q B wf).startIndexMap from List.mem_singleton.mpr rfl)]
    have hsi : (matDims n p q B wf).siIdx (ix3 j k e) ⟨List.idxOf (0 : Fin 3) (matDims n p q B wf).startIndexMap,
        List.idxOf_lt_length_iff.2 (List.mem_singleton.mpr rfl)⟩ = ix2 j 0 := by
      funext c; refine Fin.ext ?_
      match c with
      | ⟨0, _⟩ => rfl
      | ⟨1, _⟩ => rfl
    rw [hsi, hI]
    exact Nat.min_eq_left (Nat.le_sub_one_of_lt b.isLt)
  · rw [hs 1 (by decide), Nat.zero_add]
    rfl
  · rw [hs 2 (by decide), Nat.zero_add]
    rfl

/-- The gate and up weights of block `j`. -/
theorem gather_gu (W : FVec Ideal S256x1024x256 .f32) (E : IVec S770 32) (j : Fin 770) (k : Fin 1024) (e : Fin 256)
    (b : Fin 256) (hb : (E (ix1 j)).toNat = b.val) :
    Host.gather gather_S256x1024x256_S770x1_S770x1024x256_12_0_n_n_0_1_11024256 W (starts E) (ix3 j k e) = W (ix3 b k e) :=
  gather_mat gather_S256x1024x256_S770x1_S770x1024x256_12_0_n_n_0_1_11024256_wf W (starts E) j k e b
    (by rw [starts_eq E j (by omega)]; exact hb) (by norm_num)

/-- The down weights of block `j`. -/
theorem gather_d (W : FVec Ideal S256x256x1024 .f32) (E : IVec S770 32) (j : Fin 770) (e : Fin 256) (o : Fin 1024)
    (b : Fin 256) (hb : (E (ix1 j)).toNat = b.val) :
    Host.gather gather_S256x256x1024_S770x1_S770x256x1024_12_0_n_n_0_1_12561024 W (starts E) (ix3 j e o) = W (ix3 b e o) :=
  gather_mat gather_S256x256x1024_S770x1_S770x256x1024_12_0_n_n_0_1_12561024_wf W (starts E) j e o b
    (by rw [starts_eq E j (by omega)]; exact hb) (by norm_num)

/-- The reference at an entry: row `r`'s block's expert applied to the row, or zero past the used blocks. -/
theorem REF_at (X : FVec Ideal S394240x1024 .bf16) (E : IVec S770 32) (NB : IVec S1 32) (WG WU : FVec Ideal S256x1024x256 .f32)
    (WD : FVec Ideal S256x256x1024 .f32) (r : Fin 394240) (o : Fin 1024) (j : Fin 770) (hj : j.val = r.val / 512)
    (b : Fin 256) (hb : (E (ix1 j)).toNat = b.val) :
    REF X E NB WG WU WD (ix2 r o)
      = if (BitVec.ofNat 32 j.val).slt (NB (ix1 0)) = true then
          Cert.Moe.cell (fun k => X (ix2 r k)) (fun k e => WG (ix3 b k e)) (fun k e => WU (ix3 b k e)) (fun e => WD (ix3 b e o))
        else 0 := by
  refine (core_at X NB _ _ _ r o j hj).trans ?_
  simp only [gather_gu _ E j _ _ b hb, gather_d _ E j _ _ b hb]

end Cert.ReferenceIdeal.Moe

end
-- ==== Proof.Equation.lean ====
/-
  The kernel's result array is the reference's term over the same arguments: a used block's rows are its own rows through
  the expert its word names, and the rows of an unused block are zero on both sides.
-/
module

public import proofs.«01_k».proof.Proof.Run
public import proofs.«01_k».proof.Proof.Ref

@[expose] public section

set_option maxRecDepth 16384

noncomputable section

namespace Cert.KernelIdeal.Moe

open Cert.KernelIdeal Cert.KernelIdeal.Gen Idealize.ShloMosaic Idealize.ShloMosaic.TcCoe Idealize.SL.Sem

variable (T0 : S770.Idx → Elt Ideal .i32) (T1 : S1.Idx → Elt Ideal .i32) (hT : InRange (F := Ideal) T0)
  (m : (ℓ : Loc nD τ sig) → Buf (Elt Ideal) ℓ) (ρ : Dev nD → PrngReg)

/-- What a used block leaves at an entry, from the argument arrays. -/
theorem out_used (c : Dev nD) (t : Fin (cfgT T0 T1 hT).N) (h : Used T1 t.val) (a : Fin 512) (o : Fin 1024) (r : Fin 394240)
    (hr : r.val = t.val * 512 + a.val) :
    outB T0 T1 hT m ρ c t (ix2 a o)
      = Cert.Moe.cell (fun k => (m ((c.tc : Thread nD τ).loc main_arg0) : FVec Ideal S394240x1024 .bf16) (ix2 r k))
          (fun k e => (m ((c.tc : Thread nD τ).loc main_arg3) : FVec Ideal S256x1024x256 .f32) (ix3 (expOf T0 T1 hT t) k e))
          (fun k e => (m ((c.tc : Thread nD τ).loc main_arg4) : FVec Ideal S256x1024x256 .f32) (ix3 (expOf T0 T1 hT t) k e))
          (fun e => (m ((c.tc : Thread nD τ).loc main_arg5) : FVec Ideal S256x256x1024 .f32) (ix3 (expOf T0 T1 hT t) e o)) := by
  have hN : t.val < 770 := Nat.lt_of_lt_of_eq t.isLt (N_eq T0 T1 hT)
  have hl : lastOf T1 t.val = t.val := lastOf_used T1 hN h
  unfold outB
  rw [if_pos h]
  refine (pay_eq_cell _ _ _ _ a o).trans ?_
  have h0 : lastOf T1 t.val * 512 + a.val < 394240 := by rw [hl, ← hr]; exact r.isLt
  have er : (⟨lastOf T1 t.val * 512 + a.val, h0⟩ : Fin 394240) = r := Fin.ext (by show lastOf T1 t.val * 512 + a.val = r.val; rw [hl, hr])
  have e1 : (fun k => xB T0 T1 hT m ρ c t (ix2 a k)) = fun k => (m ((c.tc : Thread nD τ).loc main_arg0) : FVec Ideal S394240x1024 .bf16) (ix2 r k) :=
    funext fun k => (xB_apply T0 T1 hT m ρ c t a k h0).trans (by rw [er])
  have e2 : (fun k e => gB T0 T1 hT m ρ c t (ix3 0 k e)) = fun k e => (m ((c.tc : Thread nD τ).loc main_arg3) : FVec Ideal S256x1024x256 .f32) (ix3 (expOf T0 T1 hT t) k e) :=
    funext fun k => funext fun e => gB_apply T0 T1 hT m ρ c t 0 k e
  have e3 : (fun k e => uB T0 T1 hT m ρ c t (ix3 0 k e)) = fun k e => (m ((c.tc : Thread nD τ).loc main_arg4) : FVec Ideal S256x1024x256 .f32) (ix3 (expOf T0 T1 hT t) k e) :=
    funext fun k => funext fun e => uB_apply T0 T1 hT m ρ c t 0 k e
  have e4 : (fun e => dB T0 T1 hT m ρ c t (ix3 0 e o)) = fun e => (m ((c.tc : Thread nD τ).loc main_arg5) : FVec Ideal S256x256x1024 .f32) (ix3 (expOf T0 T1 hT t) e o) :=
    funext fun e => dB_apply T0 T1 hT m ρ c t 0 e o
  exact congr (congr (congr (congrArg Cert.Moe.cell e1) e2) e3) e4

/-- The argument arrays, at their own types. -/
abbrev X0 (c : Dev nD) : FVec Ideal S394240x1024 .bf16 := m ((c.tc : Thread nD τ).loc main_arg0)
abbrev W3 (c : Dev nD) : FVec Ideal S256x1024x256 .f32 := m ((c.tc : Thread nD τ).loc main_arg3)
abbrev W4 (c : Dev nD) : FVec Ideal S256x1024x256 .f32 := m ((c.tc : Thread nD τ).loc main_arg4)
abbrev W5 (c : Dev nD) : FVec Ideal S256x256x1024 .f32 := m ((c.tc : Thread nD τ).loc main_arg5)

/-- What an unused block leaves: zero. -/
theorem out_unused (c : Dev nD) (t : Fin (cfgT T0 T1 hT).N) (h : ¬ Used T1 t.val) (y : S512x1024.Idx) :
    outB T0 T1 hT m ρ c t y = (0 : EReal) := by
  unfold outB
  rw [if_neg h]
  exact pay_zero _

/-- The result array at an entry, against the reference's term. -/
theorem res_at (c : Dev nD) (r : Fin 394240) (o : Fin 1024) :
    resOf T0 T1 hT m ρ c (ix2 r o) = Cert.ReferenceIdeal.Moe.REF (X0 m c) T0 T1 (W3 m c) (W4 m c) (W5 m c) (ix2 r o) := by
  have hj : r.val / 512 < 770 := by have := r.isLt; omega
  refine Eq.trans ?_ (Cert.ReferenceIdeal.Moe.REF_at (X0 m c) T0 T1 (W3 m c) (W4 m c) (W5 m c) r o ⟨r.val / 512, hj⟩ rfl
    (expOf T0 T1 hT (stepOf T0 T1 hT r)) rfl).symm
  have e : resOf T0 T1 hT m ρ c (ix2 r o) = outB T0 T1 hT m ρ c (stepOf T0 T1 hT r) (ix2 (rowIn r) o) := rfl
  by_cases h : Used T1 (r.val / 512)
  · refine (e.trans (out_used T0 T1 hT m ρ c (stepOf T0 T1 hT r) h (rowIn r) o r ?_)).trans ?_
    · show r.val = r.val / 512 * 512 + r.val % 512
      omega
    · exact (if_pos h).symm
  · exact (e.trans (out_unused T0 T1 hT m ρ c (stepOf T0 T1 hT r) h _)).trans (if_neg h).symm

/-- The whole result array, against the reference's term. -/
theorem res_eq_ref (c : Dev nD) :
    resOf T0 T1 hT m ρ c = Cert.ReferenceIdeal.Moe.REF (X0 m c) T0 T1 (W3 m c) (W4 m c) (W5 m c) := by
  funext i
  rw [eq_ix2 i]
  exact res_at T0 T1 hT m ρ c (i 0) (i 1)

end Cert.KernelIdeal.Moe

end
-- ==== Proof.PreCell.lean ====
/-
  One entry of the input projection of a row, in plain sums over the extended reals, and that the kernel's two products
  compute it.
-/
module

public import proofs.«01_k».proof.Proof.Gen.Kernel2Ideal.Skeleton
public import Idealize.ShloMosaic.Lib.Pointwise

@[expose] public section

set_option maxRecDepth 16384

noncomputable section

namespace Cert.Pre

open Idealize.ShloMosaic

/-- One entry of the row after the root-mean-square norm with its gain, and the adaptive scale and shift. -/
def hid (x g sc sh : Fin 1024 → EReal) (k : Fin 1024) : EReal :=
  x k * Ideal.rsqrt (Ideal.div (∑ l, x l * x l) (Ideal.ofBits .f32 0x44800000#32) + Ideal.ofBits .f32 0x358637BD#32) * g k
    * (1 + sc k) + sh k

/-- One entry of the projected row: the modulated row against one column of the weight. -/
def proj (x g sc sh w : Fin 1024 → EReal) : EReal := ∑ k, hid x g sc sh k * w k

end Cert.Pre

namespace Cert.Kernel2Ideal.Pre

open Cert.Kernel2Ideal Cert.Kernel2Ideal.Gen Idealize.ShloMosaic Idealize.ShloMosaic.TcCoe Idealize.SL.Sem

/-- The modulated block of rows, read at an entry. -/
theorem hid_at (x : FVec Ideal S512x1024 .f32) (g : FVec Ideal S1x1024 .f32) (sc sh : FVec Ideal S1x1x1024 .f32)
    (a : Fin 512) (k : Fin 1024) :
    k0_pay4 (F := Ideal) x g sc sh (ix2 a k)
      = Cert.Pre.hid (fun k => x (ix2 a k)) (fun k => g (ix2 0 k)) (fun k => sc (ix3 0 0 k)) (fun k => sh (ix3 0 0 k)) k := by
  pointwise [k0_pay4, Cert.Pre.hid]
  all_goals rfl

/-- The row-major product, read at an entry. -/
theorem rows_at (x : FVec Ideal S512x1024 .f32) (g : FVec Ideal S1x1024 .f32) (sc sh : FVec Ideal S1x1x1024 .f32)
    (w : FVec Ideal S1024x1280 .bf16) (a : Fin 512) (e : Fin 1280) :
    k0_pay5 (F := Ideal) x g sc sh w (ix2 a e)
      = Cert.Pre.proj (fun k => x (ix2 a k)) (fun k => g (ix2 0 k)) (fun k => sc (ix3 0 0 k)) (fun k => sh (ix3 0 0 k))
          (fun k => w (ix2 k e)) := by
  pointwise [k0_pay5, Cert.Pre.proj, hid_at]
  all_goals rfl

/-- The transposed product, read at an entry. -/
theorem cols_at (x : FVec Ideal S512x1024 .f32) (g : FVec Ideal S1x1024 .f32) (sc sh : FVec Ideal S1x1x1024 .f32)
    (w : FVec Ideal S1312x1024 .bf16) (e : Fin 1312) (a : Fin 512) :
    k0_pay6 (F := Ideal) x g sc sh w (ix2 e a)
      = Cert.Pre.proj (fun k => x (ix2 a k)) (fun k => g (ix2 0 k)) (fun k => sc (ix3 0 0 k)) (fun k => sh (ix3 0 0 k))
          (fun k => w (ix2 e k)) := by
  pointwise [k0_pay6, Cert.Pre.proj, hid_at]
  all_goals exact Finset.sum_congr rfl fun k _ => mul_comm _ _

end Cert.Kernel2Ideal.Pre
-- ==== Proof.PreBlocks.lean ====
/-
  What the input projection's launch reads at a grid point: each operand's block, as the call's own arguments.
-/
module

public import proofs.«01_k».proof.Proof.Gen.Kernel2Ideal.Frame.Runs
public import proofs.«01_k».proof.Proof.PreCell
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel2Ideal.Pre

open Cert.Kernel2Ideal Cert.Kernel2Ideal.Gen Idealize.ShloMosaic Idealize.ShloMosaic.TcCoe Idealize.SL.Sem

variable (m : (ℓ : Loc nD τ sig) → Buf (Elt Ideal) ℓ)

/-- Every window's block index at a grid point: point `t` has rows `512 t` and on, in batch `t / 16`. -/
theorem idx : ∀ t : Fin cfg0.N, t.val < 64 ∧ win0_0.index t = ![t.val, 0]
    ∧ win0_1.index t = ![t.val / 16, 0, 0]
    ∧ win0_2.index t = ![t.val / 16, 0, 0]
    ∧ win0_3.index t = ![0, 0]
    ∧ win0_4.index t = ![0, 0]
    ∧ win0_5.index t = ![0, 0]
    ∧ win0_6.index t = ![t.val / 16, 0, 0, t.val % 16]
    ∧ win0_7.index t = ![t.val / 16, 0, 0, t.val % 16]
    ∧ win0_8.index t = ![t.val / 16, 0, 0, t.val % 16]
    ∧ win0_9.index t = ![t.val / 16, 0, 0, t.val % 16]
    ∧ win0_10.index t = ![t.val / 16, 0, 0, t.val % 16]
    ∧ win0_11.index t = ![t.val / 16, 0, 0, t.val % 16]
    ∧ win0_14.index t = ![t.val, 0]
    ∧ win0_17.index t = ![0, t.val] :=
  (by decide +kernel : ∀ t : Fin grid0.N, _)

/-- The rows' block. -/
theorem x_at (c : Dev nD) (t : Fin cfg0.N) (a : Fin 512) (k : Fin 1024) (b : Fin 4) (l : Fin 8192)
    (hb : b.val = t.val / 16) (hl : l.val = t.val % 16 * 512 + a.val) :
    (show FVec Ideal S512x1024 .f32 from iblk m c 0 t) (ix2 a k)
      = (m ((c : Thread nD τ).loc main_arg0) : FVec Ideal S4x8192x1024 .f32) (ix3 b l k) := by
  blk_point [iblk, V, idx t]

/-- The scale's block. -/
theorem sc_at (c : Dev nD) (t : Fin cfg0.N) (k : Fin 1024) (b : Fin 4) (hb : b.val = t.val / 16) :
    (show FVec Ideal S1x1x1024 .f32 from iblk m c 1 t) (ix3 0 0 k)
      = (m ((c : Thread nD τ).loc main_arg1) : FVec Ideal S4x1x1024 .f32) (ix3 b 0 k) := by
  blk_point [iblk, V, idx t]

/-- The shift's block. -/
theorem sh_at (c : Dev nD) (t : Fin cfg0.N) (k : Fin 1024) (b : Fin 4) (hb : b.val = t.val / 16) :
    (show FVec Ideal S1x1x1024 .f32 from iblk m c 2 t) (ix3 0 0 k)
      = (m ((c : Thread nD τ).loc main_arg2) : FVec Ideal S4x1x1024 .f32) (ix3 b 0 k) := by
  blk_point [iblk, V, idx t]

/-- The gain. -/
theorem g_at (c : Dev nD) (t : Fin cfg0.N) (k : Fin 1024) :
    (show FVec Ideal S1x1024 .f32 from iblk m c 3 t) (ix2 0 k)
      = (m ((c : Thread nD τ).loc main_arg3) : FVec Ideal S1024 .f32) (ix1 k) := by
  blk_point [iblk, V, idx t]

/-- The row-major weight: the key and value columns beside the last 512 columns. -/
def wn (W : FVec Ideal S1024x1816 .f32) : FVec Ideal S1024x1280 .bf16 :=
  truncf .bf16 (concatenate S1024x1280 1 [⟨S1024x768, extractStridedSlice S1024x768 ![0, 512] W slices_S1024x1816_S1024x768_0_512⟩,
    ⟨S1024x512, extractStridedSlice S1024x512 ![0, 1304] W slices_S1024x1816_S1024x512_0_1304⟩]
    concatenates_S1024x768_S1024x512_S1024x1280_d1) bitsLt_bf16_f32

/-- The transposed weight: the scaled query columns, the key and value columns, and the gate columns `T`, as rows. -/
def wt (W : FVec Ideal S1024x1816 .f32) (T : FVec Ideal S1024x32 .f32) : FVec Ideal S1312x1024 .bf16 :=
  truncf .bf16 (transpose S1312x1024 [1, 0] (concatenate S1024x1312 1
    [⟨S1024x512, mulf (extractStridedSlice S1024x512 ![0, 0] W slices_S1024x1816_S1024x512_0_0)
      (broadcastInDim S1024x512 ![] bcast_S_S1024x512 (constant S_ .f32 0x3E38AA3B#32))⟩,
    ⟨S1024x768, extractStridedSlice S1024x768 ![0, 512] W slices_S1024x1816_S1024x768_0_512⟩, ⟨S1024x32, T⟩]
    concatenates_S1024x512_S1024x768_S1024x32_S1024x1312_d1) transposes_S1024x1312_S1312x1024_1_0) bitsLt_bf16_f32

/-- The row-major weight's last 512 columns. -/
theorem wn_at (W : FVec Ideal S1024x1816 .f32) (k : Fin 1024) (e : Fin 512) (f : Fin 1280) (hf : f.val = 768 + e.val) :
    wn W (ix2 k f) = W (ix2 k ⟨1304 + e.val, by omega⟩) := by
  pointwise [wn]
  rw [dif_neg (by omega)]
  exact congrArg W (congrArg (ix2 k) (Fin.ext (by simp only []; omega)))

/-- The transposed weight's rows 512 to 1279: the key and value columns. -/
theorem wt_kv_at (W : FVec Ideal S1024x1816 .f32) (T : FVec Ideal S1024x32 .f32) (k : Fin 1024) (e : Fin 1312)
    (h0 : 512 ≤ e.val) (h1 : e.val < 1280) : wt W T (ix2 e k) = W (ix2 k ⟨e.val, by omega⟩) := by
  pointwise [wt]
  rw [dif_neg (by omega), dif_pos (by omega)]
  exact congrArg W (congrArg (ix2 k) (Fin.ext (by simp only []; omega)))

/-- The transposed weight's first 512 rows: the query columns, scaled. -/
theorem wt_q_at (W : FVec Ideal S1024x1816 .f32) (T : FVec Ideal S1024x32 .f32) (k : Fin 1024) (e : Fin 1312)
    (h1 : e.val < 512) : wt W T (ix2 e k) = W (ix2 k ⟨e.val, by omega⟩) * Ideal.ofBits .f32 0x3E38AA3B#32 := by
  pointwise [wt]
  rw [dif_pos (by omega)]

/-- The row-major weight's block is the whole weight. -/
theorem iblk4 (c : Dev nD) (t : Fin cfg0.N) :
    (show FVec Ideal S1024x1280 .bf16 from iblk m c 4 t) = wn (m ((c : Thread nD τ).loc main_arg4)) := by
  have e : V m c main_v3 = wn (m ((c : Thread nD τ).loc main_arg4)) := by entry_read; rfl
  rw [← e]
  blk_ext! [iblk, idx t]

/-- The transposed weight's block is the whole weight. -/
theorem iblk5 (c : Dev nD) : ∃ T, ∀ t : Fin cfg0.N,
    (show FVec Ideal S1312x1024 .bf16 from iblk m c 5 t) = wt (m ((c : Thread nD τ).loc main_arg4)) T := by
  have e : ∃ T, V m c main_v15 = wt (m ((c : Thread nD τ).loc main_arg4)) T := by
    unfold V
    after_reads_simp
    exact ⟨_, rfl⟩
  obtain ⟨T, e⟩ := e
  refine ⟨T, fun t => ?_⟩
  rw [← e]
  blk_ext! [iblk, idx t]

/-- A row's projection onto column `e` of the weight, from the call's arguments: batch `b`, row `l`. -/
def P (X : FVec Ideal S4x8192x1024 .f32) (SC SH : FVec Ideal S4x1x1024 .f32) (G : FVec Ideal S1024 .f32)
    (w : Fin 1024 → EReal) (b : Fin 4) (l : Fin 8192) : EReal :=
  Cert.Pre.proj (fun k => X (ix3 b l k)) (fun k => G (ix1 k)) (fun k => SC (ix3 b 0 k)) (fun k => SH (ix3 b 0 k)) w

/-- `P` at the arguments a launch memory holds. -/
abbrev PM (c : Dev nD) (w : Fin 1024 → EReal) (b : Fin 4) (l : Fin 8192) : EReal :=
  P (m ((c : Thread nD τ).loc main_arg0)) (m ((c : Thread nD τ).loc main_arg1)) (m ((c : Thread nD τ).loc main_arg2))
    (m ((c : Thread nD τ).loc main_arg3)) w b l

/-- The weight's column `e` at a launch memory. -/
abbrev WM (c : Dev nD) (e : Fin 1816) (k : Fin 1024) : EReal :=
  (m ((c : Thread nD τ).loc main_arg4) : FVec Ideal S1024x1816 .f32) (ix2 k e)

/-- The block of projected rows a point computes, row-major. -/
abbrev rowsAt (c : Dev nD) (t : Fin cfg0.N) : FVec Ideal S512x1280 .f32 :=
  k0_pay5 (F := Ideal) (iblk m c 0 t) (iblk m c 3 t) (iblk m c 1 t) (iblk m c 2 t) (iblk m c 4 t)

/-- The block of projected rows a point computes, transposed. -/
abbrev colsAt (c : Dev nD) (t : Fin cfg0.N) : FVec Ideal S1312x512 .f32 :=
  k0_pay6 (F := Ideal) (iblk m c 0 t) (iblk m c 3 t) (iblk m c 1 t) (iblk m c 2 t) (iblk m c 5 t)

/-- The row-major block's last 512 columns, at an entry. -/
theorem rows_entry (c : Dev nD) (t : Fin cfg0.N) (a : Fin 512) (e : Fin 512) (f : Fin 1280) (b : Fin 4) (l : Fin 8192)
    (hf : f.val = 768 + e.val) (hb : b.val = t.val / 16) (hl : l.val = t.val % 16 * 512 + a.val) :
    rowsAt m c t (ix2 a f) = PM m c (WM m c ⟨1304 + e.val, by omega⟩) b l := by
  refine (rows_at _ _ _ _ _ a f).trans ?_
  unfold PM P
  congr 1
  · exact funext fun k => x_at m c t a k b l hb hl
  · exact funext fun k => g_at m c t k
  · exact funext fun k => sc_at m c t k b hb
  · exact funext fun k => sh_at m c t k b hb
  · exact funext fun k => (congrFun (iblk4 m c t) _).trans (wn_at _ k e f hf)

/-- The transposed block's key and value rows, at an entry. -/
theorem cols_kv_entry (c : Dev nD) (t : Fin cfg0.N) (a : Fin 512) (e : Fin 1312) (b : Fin 4) (l : Fin 8192)
    (h0 : 512 ≤ e.val) (h1 : e.val < 1280) (hb : b.val = t.val / 16) (hl : l.val = t.val % 16 * 512 + a.val) :
    colsAt m c t (ix2 e a) = PM m c (WM m c ⟨e.val, by omega⟩) b l := by
  obtain ⟨T, hT⟩ := iblk5 m c
  refine (cols_at _ _ _ _ _ e a).trans ?_
  unfold PM P
  congr 1
  · exact funext fun k => x_at m c t a k b l hb hl
  · exact funext fun k => g_at m c t k
  · exact funext fun k => sc_at m c t k b hb
  · exact funext fun k => sh_at m c t k b hb
  · exact funext fun k => (congrFun (hT t) _).trans (wt_kv_at _ T k e h0 h1)

/-- The transposed block's query rows, at an entry. -/
theorem cols_q_entry (c : Dev nD) (t : Fin cfg0.N) (a : Fin 512) (e : Fin 1312) (b : Fin 4) (l : Fin 8192)
    (h1 : e.val < 512) (hb : b.val = t.val / 16) (hl : l.val = t.val % 16 * 512 + a.val) :
    colsAt m c t (ix2 e a)
      = PM m c (fun k => WM m c ⟨e.val, by omega⟩ k * Ideal.ofBits .f32 0x3E38AA3B#32) b l := by
  obtain ⟨T, hT⟩ := iblk5 m c
  refine (cols_at _ _ _ _ _ e a).trans ?_
  unfold PM P
  congr 1
  · exact funext fun k => x_at m c t a k b l hb hl
  · exact funext fun k => g_at m c t k
  · exact funext fun k => sc_at m c t k b hb
  · exact funext fun k => sh_at m c t k b hb
  · exact funext fun k => (congrFun (hT t) _).trans (wt_q_at _ T k e h1)

end Cert.Kernel2Ideal.Pre
-- ==== Proof.PreValue.lean ====
/-
  What the input projection's launch leaves in its result arrays: every entry, as a row's projection onto one column of the
  weight.
-/
module

public import proofs.«01_k».proof.Proof.Gen.Kernel2Ideal.Frame
public import proofs.«01_k».proof.Proof.PreBlocks

@[expose] public section

set_option maxRecDepth 16384

noncomputable section

namespace Cert.Kernel2Ideal.Pre

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-- The array of the key or value columns from `o` on: head `g`, lane `d`, row `l` of batch `b` is the row's projection onto
    column `o + 64 g + d`. -/
def KV (c : Dev nD) (o : ℕ) (ho : o + 128 ≤ 1816) : FVec Ideal S4x2x64x8192 .f32 := fun i =>
  PM m c (WM m c ⟨o + (i 1).val * 64 + (i 2).val, by
    have h1 : (i 1).val < 2 := (i 1).isLt
    have h2 : (i 2).val < 64 := (i 2).isLt
    omega⟩) (i 0) (i 3)

/-- An entry of a point's transposed block, at an entry of the array. -/
theorem kv_core (c : Dev nD) (t : Fin cfg0.N) (o : ℕ) (h0 : 512 ≤ o) (h1 : o + 128 ≤ 1280) (i : S1312x512.Idx)
    (j : S4x2x64x8192.Idx) (hi0 : (i 0).val = o + (j 1).val * 64 + (j 2).val) (hj0 : (j 0).val = t.val / 16)
    (hj3 : (j 3).val = t.val % 16 * 512 + (i 1).val) : colsAt m c t i = KV m c o (by omega) j := by
  have b1 : (j 1).val < 2 := (j 1).isLt
  have b2 : (j 2).val < 64 := (j 2).isLt
  refine (congrArg (colsAt m c t) (eq_ix2 i)).trans ?_
  refine (cols_kv_entry m c t (i 1) (i 0) (j 0) (j 3) (by omega) (by omega) hj0 hj3).trans ?_
  unfold KV
  exact congrArg (fun e => PM m c (WM m c e) (j 0) (j 3)) (Fin.ext hi0)

/-- The array of the recurrence's input: row `r` of all the batches, projected onto column `1304 + e`. -/
def UA (c : Dev nD) : FVec Ideal S32768x512 .f32 := fun i =>
  PM m c (WM m c ⟨1304 + (i 1).val, by have h : (i 1).val < 512 := (i 1).isLt; omega⟩)
    ⟨(i 0).val / 8192, by have h : (i 0).val < 32768 := (i 0).isLt; omega⟩
    ⟨(i 0).val % 8192, by omega⟩

/-- The array of the scaled query, row last: row `r` of all the batches, projected onto column `e` scaled. -/
def QA (c : Dev nD) : FVec Ideal S512x32768 .bf16 := fun i =>
  PM m c (fun k => WM m c ⟨(i 0).val, by have h : (i 0).val < 512 := (i 0).isLt; omega⟩ k * Ideal.ofBits .f32 0x3E38AA3B#32)
    ⟨(i 1).val / 8192, by have h : (i 1).val < 32768 := (i 1).isLt; omega⟩
    ⟨(i 1).val % 8192, by omega⟩

/-- An entry of a point's row-major block, at an entry of the array. -/
theorem u_core (c : Dev nD) (t : Fin cfg0.N) (i : S512x1280.Idx) (j : S32768x512.Idx)
    (hi : (i 1).val = 768 + (j 1).val) (hj : (j 0).val = t.val * 512 + (i 0).val) : rowsAt m c t i = UA m c j := by
  have b0 : (i 0).val < 512 := (i 0).isLt
  have b1 : (j 1).val < 512 := (j 1).isLt
  have bj : (j 0).val < 32768 := (j 0).isLt
  refine (congrArg (rowsAt m c t) (eq_ix2 i)).trans ?_
  exact rows_entry m c t (i 0) (j 1) (i 1) ⟨(j 0).val / 8192, by omega⟩ ⟨(j 0).val % 8192, by omega⟩ hi
    (by simp only []; omega) (by simp only []; omega)

/-- An entry of a point's transposed block's query rows, at an entry of the array. -/
theorem q_core (c : Dev nD) (t : Fin cfg0.N) (i : S1312x512.Idx) (j : S512x32768.Idx)
    (hi : (i 0).val = (j 0).val) (hj : (j 1).val = t.val * 512 + (i 1).val) : colsAt m c t i = QA m c j := by
  have b0 : (i 1).val < 512 := (i 1).isLt
  have b1 : (j 0).val < 512 := (j 0).isLt
  have bj : (j 1).val < 32768 := (j 1).isLt
  refine (congrArg (colsAt m c t) (eq_ix2 i)).trans ?_
  refine (cols_q_entry m c t (i 1) (i 0) ⟨(j 1).val / 8192, by omega⟩ ⟨(j 1).val % 8192, by omega⟩ (by omega)
    (by simp only []; omega) (by simp only []; omega)).trans ?_
  unfold QA
  exact congrArg (fun e => PM m c (fun k => WM m c e k * Ideal.ofBits .f32 0x3E38AA3B#32) ⟨(j 1).val / 8192, by omega⟩
    ⟨(j 1).val % 8192, by omega⟩) (Fin.ext hi)

/-- Key or value array 0 of the six after the call. -/
theorem final_6 (c : Dev nD) : (dats m 0 c).arrAt 6 (cfgs 0).N = KV m c 512 (by decide) := by
  refine (dats m 0 c).arrAt_eq_of_covers 6 _ (by decide +kernel) fun t hf y => ?_
  blk_simp
  rw [after0_6]; unfold outsAt0; frame_out
  have ht := (idx t).1
  obtain_idx i : S1312x512 := [512 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 512 (by decide) (by decide) i _ ?_ ?_ ?_)
  · canon_tiles x h
    all_goals (open_payloads; pointwise; blk_ext)
  all_goals (blk_simp [idx t] <;> try omega)

/-- Key or value array 1 of the six after the call. -/
theorem final_7 (c : Dev nD) : (dats m 0 c).arrAt 7 (cfgs 0).N = KV m c 640 (by decide) := by
  refine (dats m 0 c).arrAt_eq_of_covers 7 _ (by decide +kernel) fun t hf y => ?_
  blk_simp
  rw [after0_7]; unfold outsAt0; frame_out
  have ht := (idx t).1
  obtain_idx i : S1312x512 := [640 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 640 (by decide) (by decide) i _ ?_ ?_ ?_)
  · canon_tiles x h
    all_goals (open_payloads; pointwise; blk_ext)
  all_goals (blk_simp [idx t] <;> try omega)

/-- Key or value array 2 of the six after the call. -/
theorem final_8 (c : Dev nD) : (dats m 0 c).arrAt 8 (cfgs 0).N = KV m c 768 (by decide) := by
  refine (dats m 0 c).arrAt_eq_of_covers 8 _ (by decide +kernel) fun t hf y => ?_
  blk_simp
  rw [after0_8]; unfold outsAt0; frame_out
  have ht := (idx t).1
  obtain_idx i : S1312x512 := [768 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 768 (by decide) (by decide) i _ ?_ ?_ ?_)
  · canon_tiles x h
    all_goals (open_payloads; pointwise; blk_ext)
  all_goals (blk_simp [idx t] <;> try omega)

/-- Key or value array 3 of the six after the call. -/
theorem final_9 (c : Dev nD) : (dats m 0 c).arrAt 9 (cfgs 0).N = KV m c 896 (by decide) := by
  refine (dats m 0 c).arrAt_eq_of_covers 9 _ (by decide +kernel) fun t hf y => ?_
  blk_simp
  rw [after0_9]; unfold outsAt0; frame_out
  have ht := (idx t).1
  obtain_idx i : S1312x512 := [896 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 896 (by decide) (by decide) i _ ?_ ?_ ?_)
  · canon_tiles x h
    all_goals (open_payloads; pointwise; blk_ext)
  all_goals (blk_simp [idx t] <;> try omega)

/-- Key or value array 4 of the six after the call. -/
theorem final_10 (c : Dev nD) : (dats m 0 c).arrAt 10 (cfgs 0).N = KV m c 1024 (by decide) := by
  refine (dats m 0 c).arrAt_eq_of_covers 10 _ (by decide +kernel) fun t hf y => ?_
  blk_simp
  rw [after0_10]; unfold outsAt0; frame_out
  have ht := (idx t).1
  obtain_idx i : S1312x512 := [1024 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 1024 (by decide) (by decide) i _ ?_ ?_ ?_)
  · canon_tiles x h
    all_goals (open_payloads; pointwise; blk_ext)
  all_goals (blk_simp [idx t] <;> try omega)

/-- Key or value array 5 of the six after the call. -/
theorem final_11 (c : Dev nD) : (dats m 0 c).arrAt 11 (cfgs 0).N = KV m c 1152 (by decide) := by
  refine (dats m 0 c).arrAt_eq_of_covers 11 _ (by decide +kernel) fun t hf y => ?_
  blk_simp
  rw [after0_11]; unfold outsAt0; frame_out
  have ht := (idx t).1
  obtain_idx i : S1312x512 := [1152 + (y 1 : ℕ) * 64 + (y 2 : ℕ), (y 3 : ℕ)] with hi
  refine Eq.trans (b := k0_pay6 (F := Ideal) (iblk m c 0 t) (iblk m c 3 t) (iblk m c 1 t) (iblk m c 2 t) (iblk m c 5 t) i) ?_
    (kv_core m c t 1152 (by decide) (by decide) i _ ?_ ?_ ?_)
  · canon_tiles x h
    all_goals (open_payloads; pointwise; blk_ext)
  all_goals (blk_simp [idx t] <;> try omega)

/-- The recurrence's input after the call. -/
theorem final_14 (c : Dev nD) : (dats m 0 c).arrAt 14 (cfgs 0).N = UA m c := by
  refine (dats m 0 c).arrAt_eq_of_covers 14 _ (by decide +kernel) fun t hf y => ?_
  blk_simp
  rw [after0_14]; unfold outsAt0; frame_out
  have ht := (idx t).1
  obtain_idx i : S512x1280 := [(y 0 : ℕ), 768 + (y 1 : ℕ)] with hi
  refine Eq.trans (b := k0_pay5 (F := Ideal) (iblk m c 0 t) (iblk m c 3 t) (iblk m c 1 t) (iblk m c 2 t) (iblk m c 4 t) i) ?_
    (u_core m c t i _ ?_ ?_)
  · open_payloads; pointwise; blk_ext
  all_goals (blk_simp [idx t] <;> try omega)

/-- The scaled query after the call. -/
theorem final_17 (c : Dev nD) : (dats m 0 c).arrAt 17 (cfgs 0).N = QA m c := by
  refine (dats m 0 c).arrAt_eq_of_covers 17 _ (by decide +kernel) fun t hf y => ?_
  blk_simp
  rw [after0_17]; unfold outsAt0; frame_out
  have ht := (idx t).1
  obtain_idx i : S1312x512 := [(y 0 : ℕ), (y 1 : ℕ)] with hi
  refine Eq.trans (b := k0_pay6 (F := Ideal) (iblk m c 0 t) (iblk m c 3 t) (iblk m c 1 t) (iblk m c 2 t) (iblk m c 5 t) i) ?_
    (q_core m c t i _ ?_ ?_)
  · open_payloads; pointwise; blk_ext
  all_goals (blk_simp [idx t] <;> try omega)

end Cert.Kernel2Ideal.Pre
-- ==== Proof.PreRef.lean ====
/-
  What the reference of the input projection computes, read at an entry.
-/
module

public import proofs.«01_k».proof.Proof.Gen.Reference2Ideal
public import proofs.«01_k».proof.Proof.PreCell

@[expose] public section

set_option maxRecDepth 16384

noncomputable section

namespace Cert.Reference2Ideal.Pre

open Cert.Reference2Ideal Cert.Reference2Ideal.Gen Idealize.ShloMosaic Idealize.ShloMosaic.TcCoe Idealize.SL.Sem

/-- The modulated rows. -/
def H (X : FVec Ideal S4x8192x1024 .f32) (SC SH : FVec Ideal S4x1x1024 .f32) (G : FVec Ideal S1024 .f32) :
    FVec Ideal S4x8192x1024 .f32 :=
  addf (mulf (mulf (mulf X (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf X X) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 G))) (broadcastInDim S4x8192x1024 ![0, 1, 2] bcast_S4x1x1024_S4x8192x1024_0_1_2 (addf (broadcastInDim S4x1x1024 ![] bcast_S_S4x1x1024 (constant S_ .f32 0x3F800000#32)) SC))) (broadcastInDim S4x8192x1024 ![0, 1, 2] bcast_S4x1x1024_S4x8192x1024_0_1_2 SH)

/-- The projected rows. -/
def Z (X : FVec Ideal S4x8192x1024 .f32) (SC SH : FVec Ideal S4x1x1024 .f32) (G : FVec Ideal S1024 .f32)
    (W : FVec Ideal S1024x1816 .f32) : FVec Ideal S4x8192x1816 .f32 :=
  Host.dotGeneral dot_S4x8192x1024_S1024x1816_S4x8192x1816_2_0_01_1_n_n none (H X SC SH G) W

/-- A modulated row at an entry. -/
theorem H_at (X : FVec Ideal S4x8192x1024 .f32) (SC SH : FVec Ideal S4x1x1024 .f32) (G : FVec Ideal S1024 .f32)
    (b : Fin 4) (l : Fin 8192) (k : Fin 1024) :
    H X SC SH G (ix3 b l k) = Cert.Pre.hid (fun k => X (ix3 b l k)) (fun k => G (ix1 k)) (fun k => SC (ix3 b 0 k))
      (fun k => SH (ix3 b 0 k)) k := by
  pointwise [H, Cert.Pre.hid]
  all_goals simp only [zero_add]

/-- A projected row at an entry. -/
theorem Z_at (X : FVec Ideal S4x8192x1024 .f32) (SC SH : FVec Ideal S4x1x1024 .f32) (G : FVec Ideal S1024 .f32)
    (W : FVec Ideal S1024x1816 .f32) (b : Fin 4) (l : Fin 8192) (e : Fin 1816) :
    Z X SC SH G W (ix3 b l e) = Cert.Pre.proj (fun k => X (ix3 b l k)) (fun k => G (ix1 k)) (fun k => SC (ix3 b 0 k))
      (fun k => SH (ix3 b 0 k)) (fun k => W (ix2 k e)) := by
  pointwise [Z, Cert.Pre.proj, H_at]
  all_goals rfl

/-- Key or value array 0 of the six, which has the projected columns 512 to 639 with the row last, at an
    entry. -/
theorem kv0_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 0, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_0_0_0) shapeCasts_S4x8192x1x2x64_S4x8192x2x64) transposes_S4x8192x2x64_S4x2x64x8192_0_2_3_1 (ix4 b g d l)
      = Z (ix3 b l ⟨512 + g.val * 64 + d.val, by omega⟩) := by
  pointwise []
  exact congrArg Z (congrArg (ix3 b l) (Fin.ext (by simp only []; omega)))

/-- Key or value array 1 of the six, which has the projected columns 640 to 767 with the row last, at an
    entry. -/
theorem kv1_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 1, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_1_0_0) shapeCasts_S4x8192x1x2x64_S4x8192x2x64) transposes_S4x8192x2x64_S4x2x64x8192_0_2_3_1 (ix4 b g d l)
      = Z (ix3 b l ⟨640 + g.val * 64 + d.val, by omega⟩) := by
  pointwise []
  exact congrArg Z (congrArg (ix3 b l) (Fin.ext (by simp only []; omega)))

/-- Key or value array 2 of the six, which has the projected columns 768 to 895 with the row last, at an
    entry. -/
theorem kv2_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 2, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_2_0_0) shapeCasts_S4x8192x1x2x64_S4x8192x2x64) transposes_S4x8192x2x64_S4x2x64x8192_0_2_3_1 (ix4 b g d l)
      = Z (ix3 b l ⟨768 + g.val * 64 + d.val, by omega⟩) := by
  pointwise []
  exact congrArg Z (congrArg (ix3 b l) (Fin.ext (by simp only []; omega)))

/-- Key or value array 3 of the six, which has the projected columns 896 to 1023 with the row last, at an
    entry. -/
theorem kv3_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 3, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_3_0_0) shapeCasts_S4x8192x1x2x64_S4x8192x2x64) transposes_S4x8192x2x64_S4x2x64x8192_0_2_3_1 (ix4 b g d l)
      = Z (ix3 b l ⟨896 + g.val * 64 + d.val, by omega⟩) := by
  pointwise []
  exact congrArg Z (congrArg (ix3 b l) (Fin.ext (by simp only []; omega)))

/-- Key or value array 4 of the six, which has the projected columns 1024 to 1151 with the row last, at an
    entry. -/
theorem kv4_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 4, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_4_0_0) shapeCasts_S4x8192x1x2x64_S4x8192x2x64) transposes_S4x8192x2x64_S4x2x64x8192_0_2_3_1 (ix4 b g d l)
      = Z (ix3 b l ⟨1024 + g.val * 64 + d.val, by omega⟩) := by
  pointwise []
  exact congrArg Z (congrArg (ix3 b l) (Fin.ext (by simp only []; omega)))

/-- Key or value array 5 of the six, which has the projected columns 1152 to 1279 with the row last, at an
    entry. -/
theorem kv5_at (Z : FVec Ideal S4x8192x1816 .f32) (b : Fin 4) (g : Fin 2) (d : Fin 64) (l : Fin 8192) :
    transpose S4x2x64x8192 [0, 2, 3, 1] (shapeCast S4x8192x2x64 (extractStridedSlice S4x8192x1x2x64 ![0, 0, 5, 0, 0] (shapeCast S4x8192x6x2x64 (extractStridedSlice S4x8192x768 ![0, 0, 512] Z slices_S4x8192x1816_S4x8192x768_0_0_512) shapeCasts_S4x8192x768_S4x8192x6x2x64) slices_S4x8192x6x2x64_S4x8192x1x2x64_0_0_5_0_0) shapeCasts_S4x8192x1x2x64_S4x8192x2x64) transposes_S4x8192x2x64_S4x2x64x8192_0_2_3_1 (ix4 b g d l)
      = Z (ix3 b l ⟨1152 + g.val * 64 + d.val, by omega⟩) := by
  pointwise []
  exact congrArg Z (congrArg (ix3 b l) (Fin.ext (by simp only []; omega)))

/-- The recurrence's input, the last 512 projected columns, at an entry. -/
theorem u_at (Z : FVec Ideal S4x8192x1816 .f32) (r : Fin 32768) (e : Fin 512) :
    shapeCast S32768x512 (extractStridedSlice S4x8192x512 ![0, 0, 1304] Z slices_S4x8192x1816_S4x8192x512_0_0_1304) shapeCasts_S4x8192x512_S32768x512 (ix2 r e)
      = Z (ix3 ⟨r.val / 8192, by omega⟩ ⟨r.val % 8192, by omega⟩ ⟨1304 + e.val, by omega⟩) := by
  pointwise []

/-- The scaled query, the first 512 projected columns with the row last, at an entry. -/
theorem q_at (Z : FVec Ideal S4x8192x1816 .f32) (e : Fin 512) (r : Fin 32768) :
    truncf (F := Ideal) .bf16 (transpose S512x32768 [1, 0] (shapeCast S32768x512 (mulf (extractStridedSlice S4x8192x512 ![0, 0, 0] Z slices_S4x8192x1816_S4x8192x512_0_0_0) (broadcastInDim S4x8192x512 ![] bcast_S_S4x8192x512 (constant S_ .f32 0x3E38AA3B#32))) shapeCasts_S4x8192x512_S32768x512) transposes_S32768x512_S512x32768_1_0) bitsLt_bf16_f32 (ix2 e r)
      = Z (ix3 ⟨r.val / 8192, by omega⟩ ⟨r.val % 8192, by omega⟩ ⟨e.val, by omega⟩) * Ideal.ofBits .f32 0x3E38AA3B#32 := by
  pointwise []

end Cert.Reference2Ideal.Pre
-- ==== Proof.PreScale.lean ====
/-
  The query's scale is a real number that is not negative, so it comes out of a projection's sum.
-/
module

public import proofs.«01_k».proof.Proof.PreCell

@[expose] public section

set_option maxRecDepth 16384

noncomputable section

namespace Cert.Pre

open Idealize.ShloMosaic

/-- The query's scale is a real number, and not negative. -/
theorem scale_real : ∃ r : ℝ, 0 ≤ r ∧ Ideal.ofBits .f32 0x3E38AA3B#32 = (r : EReal) := by
  refine ⟨(12102203 : ℝ) / 67108864, by norm_num, ?_⟩
  simp [Ideal.ofBits, Ideal.ieee, -EReal.coe_mul]; norm_num

/-- A real factor that is not negative comes out of a finite sum of extended reals. -/
theorem sum_mul_real {ι : Type*} (s : Finset ι) (f : ι → EReal) (r : ℝ) (hr : 0 ≤ r) :
    ∑ k ∈ s, f k * (r : EReal) = (∑ k ∈ s, f k) * (r : EReal) := by
  classical
  induction s using Finset.induction_on with
  | empty => simp
  | insert a s ha ih =>
    rw [Finset.sum_insert ha, Finset.sum_insert ha, ih]
    exact (EReal.right_distrib_of_nonneg_of_ne_top (EReal.coe_nonneg.mpr hr) (EReal.coe_ne_top r) _ _).symm

/-- Scaling the column by the query's scale scales the projection. -/
theorem proj_scale (x g sc sh w : Fin 1024 → EReal) :
    proj x g sc sh (fun k => w k * Ideal.ofBits .f32 0x3E38AA3B#32) = proj x g sc sh w * Ideal.ofBits .f32 0x3E38AA3B#32 := by
  obtain ⟨r, hr, e⟩ := scale_real
  rw [e]
  unfold proj
  rw [← sum_mul_real Finset.univ _ r hr]
  exact Finset.sum_congr rfl fun k _ => (mul_assoc _ _ _).symm

end Cert.Pre
-- ==== Proof.PreEquation.lean ====
/-
  The arrays the input projection's launch leaves are the reference's: entry by entry, the projection of one row onto one
  column, with the query's scale taken out of the sum.
-/
module

public import proofs.«01_k».proof.Proof.PreValue
public import proofs.«01_k».proof.Proof.PreRef
public import proofs.«01_k».proof.Proof.PreScale

@[expose] public section

set_option maxRecDepth 16384

noncomputable section

namespace Cert.Kernel2Ideal.Pre

open Cert.Kernel2Ideal Cert.Kernel2Ideal.Gen Idealize.ShloMosaic Idealize.ShloMosaic.TcCoe Idealize.SL.Sem

variable (m : (ℓ : Loc nD τ sig) → Buf (Elt Ideal) ℓ)

/-- The reference's projected rows at the arguments a launch memory holds. -/
abbrev ZM (c : Dev nD) : FVec Ideal Cert.Reference2Ideal.S4x8192x1816 .f32 :=
  Cert.Reference2Ideal.Pre.Z (m ((c : Thread nD τ).loc main_arg0)) (m ((c : Thread nD τ).loc main_arg1))
    (m ((c : Thread nD τ).loc main_arg2)) (m ((c : Thread nD τ).loc main_arg3)) (m ((c : Thread nD τ).loc main_arg4))

/-- A projected row of the reference at an entry. -/
theorem ZM_at (c : Dev nD) (b : Fin 4) (l : Fin 8192) (e : Fin 1816) : ZM m c (ix3 b l e) = PM m c (WM m c e) b l :=
  Cert.Reference2Ideal.Pre.Z_at _ _ _ _ _ b l e

/-- An array that has the reference's columns from `o` on, row last, is the launch's. -/
theorem kv_eq (c : Dev nD) (o : ℕ) (ho : o + 128 ≤ 1816) (f : FVec Ideal S4x2x64x8192 .f32)
    (hf : ∀ (b : Fin 4) (g : Fin 2) (d : Fin 64) (l : Fin 8192),
      f (ix4 b g d l) = ZM m c (ix3 b l ⟨o + g.val * 64 + d.val, by omega⟩)) : f = KV m c o ho := by
  funext i
  refine (congrArg f (eq_ix4 i)).trans ?_
  refine (hf (i 0) (i 1) (i 2) (i 3)).trans ?_
  exact ZM_at m c _ _ _

/-- An array that has the reference's last 512 columns, batches stacked, is the launch's. -/
theorem u_eq (c : Dev nD) (f : FVec Ideal S32768x512 .f32)
    (hf : ∀ (r : Fin 32768) (e : Fin 512),
      f (ix2 r e) = ZM m c (ix3 ⟨r.val / 8192, by omega⟩ ⟨r.val % 8192, by omega⟩ ⟨1304 + e.val, by omega⟩)) : f = UA m c := by
  funext i
  refine (congrArg f (eq_ix2 i)).trans ?_
  refine (hf (i 0) (i 1)).trans ?_
  exact ZM_at m c _ _ _

/-- An array that has the reference's first 512 columns scaled, batches stacked and row last, is the launch's. -/
theorem q_eq (c : Dev nD) (f : FVec Ideal S512x32768 .bf16)
    (hf : ∀ (e : Fin 512) (r : Fin 32768),
      f (ix2 e r) = ZM m c (ix3 ⟨r.val / 8192, by omega⟩ ⟨r.val % 8192, by omega⟩ ⟨e.val, by omega⟩)
        * Ideal.ofBits .f32 0x3E38AA3B#32) : f = QA m c := by
  funext i
  refine (congrArg f (eq_ix2 i)).trans ?_
  refine (hf (i 0) (i 1)).trans ?_
  rw [ZM_at m c]
  exact (Cert.Pre.proj_scale _ _ _ _ _).symm

end Cert.Kernel2Ideal.Pre
-- ==== Proof.TailDefs.lean ====
/-
  One entry of a row after the mixture of experts: the eight routed rows weighted, the shared expert, the norm and the
  gated residual, in plain sums over the extended reals.
-/
module

public import proofs.«01_k».proof.Proof.Cell

@[expose] public section

set_option maxRecDepth 16384

noncomputable section

namespace Cert.Tail

open Idealize.ShloMosaic

/-- One entry of the experts' sum: eight routed rows with their weights, and the shared expert. -/
def mix (w : Fin 8 → EReal) (y : Fin 8 → Fin 1024 → EReal) (h : Fin 1024 → EReal) (g u : Fin 1024 → Fin 256 → EReal)
    (d : Fin 256 → Fin 1024 → EReal) (o : Fin 1024) : EReal :=
  (∑ k, w k * y k o) + Cert.Moe.cell h g u (fun e => d e o)

/-- One entry of the layer's result: the residual row, and the gate times the normed row `f` with its gain. -/
def out (x gt gp f : Fin 1024 → EReal) (o : Fin 1024) : EReal :=
  x o + gt o * (f o * Ideal.rsqrt (Ideal.div (∑ l, f l * f l) (Ideal.ofBits .f32 0x44800000#32)
    + Ideal.ofBits .f32 0x358637BD#32) * gp o)

end Cert.Tail

end
-- ==== Proof.TailCell.lean ====
/-
  What the final call's body computes of its blocks, read at an entry: the prompt.
-/
module

public import proofs.«01_k».proof.Proof.Gen.Kernel3Ideal.Frame
public import proofs.«01_k».proof.Proof.TailDefs
public import Idealize.ShloMosaic.Lib.Pointwise

@[expose] public section

set_option maxRecDepth 16384

noncomputable section

namespace Cert.Kernel3Ideal.Tail

open Cert.Kernel3Ideal Cert.Kernel3Ideal.Gen Idealize.ShloMosaic Idealize.ShloMosaic.TcCoe Idealize.SL.Sem

/-- The experts' sum of a block of rows, read at an entry. -/
theorem mix_at (w : FVec Ideal S512x8 .f32) (y0 y1 y2 y3 y4 y5 y6 y7 : FVec Ideal S1x512x1024 .bf16)
    (h : FVec Ideal S512x1024 .bf16) (g u : FVec Ideal S1024x256 .bf16) (d : FVec Ideal S256x1024 .bf16)
    (a : Fin 512) (o : Fin 1024) :
    k0_pay17 (F := Ideal) (k0_pay2 (F := Ideal) w)
        (k0_pay12 (F := Ideal) (k0_pay2 (F := Ideal) w) (k0_pay7 (F := Ideal) w y0 y1 y2) (k0_pay8 (F := Ideal) y3) y4 y5)
        (k0_pay14 (F := Ideal) y6)
        (k0_pay15 (F := Ideal) (k0_pay2 (F := Ideal) w) (k0_pay6 (F := Ideal) w y0 y1 y2) (k0_pay9 (F := Ideal) y3) y4 y5 y6)
        (k0_pay16 (F := Ideal) (k0_pay2 (F := Ideal) w)) y7 h g u d (ix2 a o)
      = Cert.Tail.mix (fun k => w (ix2 a k))
          (fun k o => (![y0, y1, y2, y3, y4, y5, y6, y7] : Fin 8 → FVec Ideal S1x512x1024 .bf16) k (ix3 0 a o))
          (fun k => h (ix2 a k)) (fun k e => g (ix2 k e)) (fun k e => u (ix2 k e)) (fun e o => d (ix2 e o)) o := by
  unfold Cert.Tail.mix Cert.Moe.cell Cert.Moe.silu
  rw [Fin.sum_univ_eight]
  pointwise [k0_pay17, k0_pay2, k0_pay3, k0_pay4, k0_pay5, k0_pay6, k0_pay7, k0_pay8, k0_pay9, k0_pay10, k0_pay11, k0_pay12,
    k0_pay13, k0_pay14, k0_pay15, k0_pay16]
  by_cases ho : o.val < 512
  · rw [dif_pos (by omega)]
    simp only [zero_sub]
  · have e : (⟨512 + (o.val - 512), by omega⟩ : Fin 1024) = o := Fin.ext (by simp only []; omega)
    rw [dif_neg (by omega)]
    simp only [zero_sub, e]

/-- The result's block, read at an entry. -/
theorem out_at (f x : FVec Ideal S512x1024 .f32) (gt : FVec Ideal S1x1x1024 .f32) (gp : FVec Ideal S1x1024 .f32)
    (a : Fin 512) (o : Fin 1024) :
    k0_pay1 (F := Ideal) f x gt gp (ix2 a o)
      = Cert.Tail.out (fun l => x (ix2 a l)) (fun l => gt (ix3 0 0 l)) (fun l => gp (ix2 0 l)) (fun l => f (ix2 a l)) o := by
  pointwise [k0_pay1, Cert.Tail.out]
  all_goals rfl

end Cert.Kernel3Ideal.Tail

end
-- ==== Proof.TailRef.lean ====
/-
  What the reference of the final call computes, read at an entry: the prompt.
-/
module

public import proofs.«01_k».proof.Proof.Gen.Reference3Ideal.Run
public import proofs.«01_k».proof.Proof.TailDefs
public import Idealize.ShloMosaic.Lib.Pointwise

@[expose] public section

set_option maxRecDepth 16384

noncomputable section

namespace Cert.Reference3Ideal.Tail

open Cert.Reference3Ideal Cert.Reference3Ideal.Gen Idealize.ShloMosaic Idealize.ShloMosaic.TcCoe Idealize.SL.Sem

/-- The weighted sum of the routed rows, and the shared expert. -/
def FS (H : FVec Ideal S32768x1024 .bf16) (Y : FVec Ideal S8x32768x1024 .bf16) (WT : FVec Ideal S8x32768 .f32)
    (G U : FVec Ideal S1024x256 .f32) (D : FVec Ideal S256x1024 .f32) : FVec Ideal S32768x1024 .f32 :=
  addf (Host.reduceAdd (mulf (extf .f32 Y bitsLt_bf16_f32) (broadcastInDim S8x32768x1024 ![0, 1, 2] bcast_S8x32768x1_S8x32768x1024_0_1_2 (broadcastInDim S8x32768x1 ![0, 1] bcast_S8x32768_S8x32768x1_0_1 WT))) (constant S_ .f32 0x00000000#32) reducesTo_S8x32768x1024_S32768x1024_d0 h_S_) (Host.dotGeneral dot_S32768x256_S256x1024_S32768x1024_1_0_0_1_n_n none (mulf (mulf (Host.dotGeneral dot_S32768x1024_S1024x256_S32768x256_1_0_0_1_n_n none (extf .f32 H bitsLt_bf16_f32) G) (Host.divf (broadcastInDim S32768x256 ![] bcast_S_S32768x256 (constant S_ .f32 0x3F800000#32)) (addf (broadcastInDim S32768x256 ![] bcast_S_S32768x256 (constant S_ .f32 0x3F800000#32)) (Host.exp (Host.negf (Host.dotGeneral dot_S32768x1024_S1024x256_S32768x256_1_0_0_1_n_n none (extf .f32 H bitsLt_bf16_f32) G)))))) (Host.dotGeneral dot_S32768x1024_S1024x256_S32768x256_1_0_0_1_n_n none (extf .f32 H bitsLt_bf16_f32) U)) D)

/-- The result from the experts' sum `Z`. -/
def core (X Z : FVec Ideal S32768x1024 .f32) (GT : FVec Ideal S4x1x1024 .f32) (GP : FVec Ideal S1024 .f32) :
    FVec Ideal S32768x1024 .f32 :=
  shapeCast S32768x1024 (addf (shapeCast S4x8192x1024 X shapeCasts_S32768x1024_S4x8192x1024) (mulf (broadcastInDim S4x8192x1024 ![0, 1, 2] bcast_S4x1x1024_S4x8192x1024_0_1_2 GT) (mulf (mulf (shapeCast S4x8192x1024 Z shapeCasts_S32768x1024_S4x8192x1024) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (shapeCast S4x8192x1024 Z shapeCasts_S32768x1024_S4x8192x1024) (shapeCast S4x8192x1024 Z shapeCasts_S32768x1024_S4x8192x1024)) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x358637BD#32)))))) (broadcastInDim S4x8192x1024 ![0, 1, 2] bcast_S1x1x1024_S4x8192x1024_0_1_2 (broadcastInDim S1x1x1024 ![2] bcast_S1024_S1x1x1024_2 GP))))) shapeCasts_S4x8192x1024_S32768x1024

/-- The result from the experts' sum, at an entry. -/
theorem core_at (X Z : FVec Ideal S32768x1024 .f32) (GT : FVec Ideal S4x1x1024 .f32) (GP : FVec Ideal S1024 .f32)
    (r : Fin 32768) (o : Fin 1024) :
    core X Z GT GP (ix2 r o)
      = Cert.Tail.out (fun l => X (ix2 r l)) (fun l => GT (ix3 ⟨r.val / 8192, by omega⟩ 0 l)) (fun l => GP (ix1 l)) (fun l => Z (ix2 r l)) o := by
  pointwise [core, Cert.Tail.out]

/-- The result from the arguments. -/
def REF (X : FVec Ideal S32768x1024 .f32) (H : FVec Ideal S32768x1024 .bf16) (Y : FVec Ideal S8x32768x1024 .bf16)
    (WT : FVec Ideal S8x32768 .f32) (GT : FVec Ideal S4x1x1024 .f32) (GP : FVec Ideal S1024 .f32)
    (G U : FVec Ideal S1024x256 .f32) (D : FVec Ideal S256x1024 .f32) : FVec Ideal S32768x1024 .f32 :=
  core X (FS H Y WT G U D) GT GP

/-- The experts' sum at an entry. -/
theorem FS_at (H : FVec Ideal S32768x1024 .bf16) (Y : FVec Ideal S8x32768x1024 .bf16) (WT : FVec Ideal S8x32768 .f32)
    (G U : FVec Ideal S1024x256 .f32) (D : FVec Ideal S256x1024 .f32) (r : Fin 32768) (o : Fin 1024) :
    FS H Y WT G U D (ix2 r o)
      = Cert.Tail.mix (fun k => WT (ix2 k r)) (fun k o => Y (ix3 k r o)) (fun k => H (ix2 r k)) (fun k e => G (ix2 k e))
          (fun k e => U (ix2 k e)) (fun e o => D (ix2 e o)) o := by
  pointwise [FS, Cert.Tail.mix, Cert.Moe.cell, Cert.Moe.silu]
  all_goals simp only [zero_add, mul_comm (WT _)]

/-- The result at an entry. -/
theorem REF_at (X : FVec Ideal S32768x1024 .f32) (H : FVec Ideal S32768x1024 .bf16) (Y : FVec Ideal S8x32768x1024 .bf16)
    (WT : FVec Ideal S8x32768 .f32) (GT : FVec Ideal S4x1x1024 .f32) (GP : FVec Ideal S1024 .f32)
    (G U : FVec Ideal S1024x256 .f32) (D : FVec Ideal S256x1024 .f32) (r : Fin 32768) (o : Fin 1024) :
    REF X H Y WT GT GP G U D (ix2 r o)
      = Cert.Tail.out (fun l => X (ix2 r l)) (fun l => GT (ix3 ⟨r.val / 8192, by omega⟩ 0 l)) (fun l => GP (ix1 l))
          (fun l => FS H Y WT G U D (ix2 r l)) o := by
  exact core_at X _ GT GP r o

end Cert.Reference3Ideal.Tail

end
-- ==== Proof.TailValue.lean ====
/-
  What the final call leaves in its result array: the prompt.
-/
module

public import proofs.«01_k».proof.Proof.TailCell
public import proofs.«01_k».proof.Proof.TailRef
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel3Ideal.Tail

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N, t.val < 64 ∧ win0_0.index t = ![t.val, 0] ∧ win0_1.index t = ![t.val, 0] ∧ win0_2.index t = ![0, t.val, 0]
    ∧ win0_3.index t = ![t.val, 0] ∧ win0_4.index t = ![t.val / 16, 0, 0] ∧ win0_5.index t = ![0, 0] ∧ win0_6.index t = ![0, 0]
    ∧ win0_7.index t = ![0, 0] ∧ win0_8.index t = ![0, 0] ∧ win0_9.index t = ![t.val, 0] :=
  (by decide +kernel : ∀ t : Fin grid0.N, _)

/-- The residual rows' block. -/
theorem x_at (c : Dev nD) (t : Fin cfg0.N) (a : Fin 512) (l : Fin 1024) (r : Fin 32768) (hr : r.val = t.val * 512 + a.val) :
    (show FVec Ideal S512x1024 .f32 from iblk m c 0 t) (ix2 a l)
      = (m ((c : Thread nD τ).loc main_arg0) : FVec Ideal S32768x1024 .f32) (ix2 r l) := by
  blk_point [iblk, V, idx t]

/-- The shared expert's rows' block. -/
theorem h_at (c : Dev nD) (t : Fin cfg0.N) (a : Fin 512) (l : Fin 1024) (r : Fin 32768) (hr : r.val = t.val * 512 + a.val) :
    (show FVec Ideal S512x1024 .bf16 from iblk m c 1 t) (ix2 a l)
      = (m ((c : Thread nD τ).loc main_arg1) : FVec Ideal S32768x1024 .bf16) (ix2 r l) := by
  blk_point [iblk, V, idx t]

/-- Routed row 0 of the eight. -/
theorem y0_at (c : Dev nD) (t : Fin cfg0.N) (a : Fin 512) (l : Fin 1024) (r : Fin 32768) (hr : r.val = t.val * 512 + a.val) :
    (View.ld (iblk m c 2 t) r0_1 : FVec Ideal S1x512x1024 .bf16) (ix3 0 a l)
      = (m ((c : Thread nD τ).loc main_arg2) : FVec Ideal S8x32768x1024 .bf16) (ix3 0 r l) := by
  blk_point [iblk, V, idx t]

/-- Routed row 1 of the eight. -/
theorem y1_at (c : Dev nD) (t : Fin cfg0.N) (a : Fin 512) (l : Fin 1024) (r : Fin 32768) (hr : r.val = t.val * 512 + a.val) :
    (View.ld (iblk m c 2 t) r0_2 : FVec Ideal S1x512x1024 .bf16) (ix3 0 a l)
      = (m ((c : Thread nD τ).loc main_arg2) : FVec Ideal S8x32768x1024 .bf16) (ix3 1 r l) := by
  blk_point [iblk, V, idx t]

/-- Routed row 2 of the eight. -/
theorem y2_at (c : Dev nD) (t : Fin cfg0.N) (a : Fin 512) (l : Fin 1024) (r : Fin 32768) (hr : r.val = t.val * 512 + a.val) :
    (View.ld (iblk m c 2 t) r0_3 : FVec Ideal S1x512x1024 .bf16) (ix3 0 a l)
      = (m ((c : Thread nD τ).loc main_arg2) : FVec Ideal S8x32768x1024 .bf16) (ix3 2 r l) := by
  blk_point [iblk, V, idx t]

/-- Routed row 3 of the eight. -/
theorem y3_at (c : Dev nD) (t : Fin cfg0.N) (a : Fin 512) (l : Fin 1024) (r : Fin 32768) (hr : r.val = t.val * 512 + a.val) :
    (View.ld (iblk m c 2 t) r0_4 : FVec Ideal S1x512x1024 .bf16) (ix3 0 a l)
      = (m ((c : Thread nD τ).loc main_arg2) : FVec Ideal S8x32768x1024 .bf16) (ix3 3 r l) := by
  blk_point [iblk, V, idx t]

/-- Routed row 4 of the eight. -/
theorem y4_at (c : Dev nD) (t : Fin cfg0.N) (a : Fin 512) (l : Fin 1024) (r : Fin 32768) (hr : r.val = t.val * 512 + a.val) :
    (View.ld (iblk m c 2 t) r0_5 : FVec Ideal S1x512x1024 .bf16) (ix3 0 a l)
      = (m ((c : Thread nD τ).loc main_arg2) : FVec Ideal S8x32768x1024 .bf16) (ix3 4 r l) := by
  blk_point [iblk, V, idx t]

/-- Routed row 5 of the eight. -/
theorem y5_at (c : Dev nD) (t : Fin cfg0.N) (a : Fin 512) (l : Fin 1024) (r : Fin 32768) (hr : r.val = t.val * 512 + a.val) :
    (View.ld (iblk m c 2 t) r0_6 : FVec Ideal S1x512x1024 .bf16) (ix3 0 a l)
      = (m ((c : Thread nD τ).loc main_arg2) : FVec Ideal S8x32768x1024 .bf16) (ix3 5 r l) := by
  blk_point [iblk, V, idx t]

/-- Routed row 6 of the eight. -/
theorem y6_at (c : Dev nD) (t : Fin cfg0.N) (a : Fin 512) (l : Fin 1024) (r : Fin 32768) (hr : r.val = t.val * 512 + a.val) :
    (View.ld (iblk m c 2 t) r0_7 : FVec Ideal S1x512x1024 .bf16) (ix3 0 a l)
      = (m ((c : Thread nD τ).loc main_arg2) : FVec Ideal S8x32768x1024 .bf16) (ix3 6 r l) := by
  blk_point [iblk, V, idx t]

/-- Routed row 7 of the eight. -/
theorem y7_at (c : Dev nD) (t : Fin cfg0.N) (a : Fin 512) (l : Fin 1024) (r : Fin 32768) (hr : r.val = t.val * 512 + a.val) :
    (View.ld (iblk m c 2 t) r0_8 : FVec Ideal S1x512x1024 .bf16) (ix3 0 a l)
      = (m ((c : Thread nD τ).loc main_arg2) : FVec Ideal S8x32768x1024 .bf16) (ix3 7 r l) := by
  blk_point [iblk, V, idx t]

/-- The row weights' block. -/
theorem w_at (c : Dev nD) (t : Fin cfg0.N) (a : Fin 512) (k : Fin 8) (r : Fin 32768) (hr : r.val = t.val * 512 + a.val) :
    (show FVec Ideal S512x8 .f32 from iblk m c 3 t) (ix2 a k)
      = (m ((c : Thread nD τ).loc main_arg3) : FVec Ideal S8x32768 .f32) (ix2 k r) := by
  blk_point [iblk, V, idx t]

/-- The gate's block. -/
theorem gt_at (c : Dev nD) (t : Fin cfg0.N) (a : Fin 512) (l : Fin 1024) (r : Fin 32768) (hr : r.val = t.val * 512 + a.val) :
    (show FVec Ideal S1x1x1024 .f32 from iblk m c 4 t) (ix3 0 0 l)
      = (m ((c : Thread nD τ).loc main_arg4) : FVec Ideal S4x1x1024 .f32) (ix3 ⟨r.val / 8192, by omega⟩ 0 l) := by
  blk_point [iblk, V, idx t]

/-- The gain. -/
theorem gp_at (c : Dev nD) (t : Fin cfg0.N) (l : Fin 1024) :
    (show FVec Ideal S1x1024 .f32 from iblk m c 5 t) (ix2 0 l)
      = (m ((c : Thread nD τ).loc main_arg5) : FVec Ideal S1024 .f32) (ix1 l) := by
  blk_point [iblk, V, idx t]

/-- The shared expert's gate weight. -/
theorem wg_at (c : Dev nD) (t : Fin cfg0.N) (k : Fin 1024) (e : Fin 256) :
    (show FVec Ideal S1024x256 .bf16 from iblk m c 6 t) (ix2 k e)
      = (m ((c : Thread nD τ).loc main_arg6) : FVec Ideal S1024x256 .f32) (ix2 k e) := by
  blk_point [iblk, V, idx t]

/-- The shared expert's up weight. -/
theorem wu_at (c : Dev nD) (t : Fin cfg0.N) (k : Fin 1024) (e : Fin 256) :
    (show FVec Ideal S1024x256 .bf16 from iblk m c 7 t) (ix2 k e)
      = (m ((c : Thread nD τ).loc main_arg7) : FVec Ideal S1024x256 .f32) (ix2 k e) := by
  blk_point [iblk, V, idx t]

/-- The shared expert's down weight. -/
theorem wd_at (c : Dev nD) (t : Fin cfg0.N) (e : Fin 256) (k : Fin 1024) :
    (show FVec Ideal S256x1024 .bf16 from iblk m c 8 t) (ix2 e k)
      = (m ((c : Thread nD τ).loc main_arg8) : FVec Ideal S256x1024 .f32) (ix2 e k) := by
  blk_point [iblk, V, idx t]

/-- The reference's result at the arguments a launch memory holds. -/
abbrev OUT (c : Dev nD) : FVec Ideal S32768x1024 .f32 :=
  Cert.Reference3Ideal.Tail.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The block of result rows a point stores, from the blocks it reads. -/
def blk (w : FVec Ideal S512x8 .f32) (y0 y1 y2 y3 y4 y5 y6 y7 : FVec Ideal S1x512x1024 .bf16)
    (h : FVec Ideal S512x1024 .bf16) (g u : FVec Ideal S1024x256 .bf16) (d : FVec Ideal S256x1024 .bf16)
    (x : FVec Ideal S512x1024 .f32) (gt : FVec Ideal S1x1x1024 .f32) (gp : FVec Ideal S1x1024 .f32) :
    FVec Ideal S512x1024 .f32 :=
  k0_pay1 (F := Ideal) (k0_pay17 (F := Ideal) (k0_pay2 (F := Ideal) w)
        (k0_pay12 (F := Ideal) (k0_pay2 (F := Ideal) w) (k0_pay7 (F := Ideal) w y0 y1 y2) (k0_pay8 (F := Ideal) y3) y4 y5)
        (k0_pay14 (F := Ideal) y6)
        (k0_pay15 (F := Ideal) (k0_pay2 (F := Ideal) w) (k0_pay6 (F := Ideal) w y0 y1 y2) (k0_pay9 (F := Ideal) y3) y4 y5 y6)
        (k0_pay16 (F := Ideal) (k0_pay2 (F := Ideal) w)) y7 h g u d) x gt gp

/-- A block's entry is the reference's, when the blocks hold the row's entries. -/
theorem blk_at (w : FVec Ideal S512x8 .f32) (y0 y1 y2 y3 y4 y5 y6 y7 : FVec Ideal S1x512x1024 .bf16)
    (h : FVec Ideal S512x1024 .bf16) (g u : FVec Ideal S1024x256 .bf16) (d : FVec Ideal S256x1024 .bf16)
    (x : FVec Ideal S512x1024 .f32) (gt : FVec Ideal S1x1x1024 .f32) (gp : FVec Ideal S1x1024 .f32)
    (X : FVec Ideal S32768x1024 .f32) (H : FVec Ideal S32768x1024 .bf16) (Y : FVec Ideal S8x32768x1024 .bf16)
    (WT : FVec Ideal S8x32768 .f32) (GT : FVec Ideal S4x1x1024 .f32) (GP : FVec Ideal S1024 .f32)
    (G U : FVec Ideal S1024x256 .f32) (D : FVec Ideal S256x1024 .f32) (a : Fin 512) (r : Fin 32768) (o : Fin 1024)
    (hx : ∀ l, x (ix2 a l) = X (ix2 r l)) (hgt : ∀ l, gt (ix3 0 0 l) = GT (ix3 ⟨r.val / 8192, by omega⟩ 0 l))
    (hgp : ∀ l, gp (ix2 0 l) = GP (ix1 l)) (hw : ∀ k, w (ix2 a k) = WT (ix2 k r))
    (hy : ∀ k l, (![y0, y1, y2, y3, y4, y5, y6, y7] : Fin 8 → FVec Ideal S1x512x1024 .bf16) k (ix3 0 a l) = Y (ix3 k r l))
    (hh : ∀ k, h (ix2 a k) = H (ix2 r k)) (hg : ∀ k e, g (ix2 k e) = G (ix2 k e))
    (hu : ∀ k e, u (ix2 k e) = U (ix2 k e)) (hd : ∀ e k, d (ix2 e k) = D (ix2 e k)) :
    blk w y0 y1 y2 y3 y4 y5 y6 y7 h g u d x gt gp (ix2 a o)
      = Cert.Reference3Ideal.Tail.REF X H Y WT GT GP G U D (ix2 r o) := by
  rw [blk, out_at, Cert.Reference3Ideal.Tail.REF_at]
  simp only [mix_at, Cert.Reference3Ideal.Tail.FS_at, hx, hgt, hgp, hw, hy, hh, hg, hu, hd]

/-- The block a point leaves behind is the one it stores. -/
theorem out_eq (x0 : FVec Ideal S512x1024 .f32) (x1 : FVec Ideal S512x1024 .bf16) (x2 : FVec Ideal S8x512x1024 .bf16)
    (x3 : FVec Ideal S512x8 .f32) (x4 : FVec Ideal S1x1x1024 .f32) (x5 : FVec Ideal S1x1024 .f32)
    (x6 x7 : FVec Ideal S1024x256 .bf16) (x8 : FVec Ideal S256x1024 .bf16) :
    out0_9 (F := Ideal) x0 x1 x2 x3 x4 x5 x6 x7 x8
      = blk x3 (View.ld (Val := Elt Ideal) (e' := .bf16) x2 r0_1) (View.ld (Val := Elt Ideal) (e' := .bf16) x2 r0_2) (View.ld (Val := Elt Ideal) (e' := .bf16) x2 r0_3) (View.ld (Val := Elt Ideal) (e' := .bf16) x2 r0_4) (View.ld (Val := Elt Ideal) (e' := .bf16) x2 r0_5) (View.ld (Val := Elt Ideal) (e' := .bf16) x2 r0_6) (View.ld (Val := Elt Ideal) (e' := .bf16) x2 r0_7) (View.ld (Val := Elt Ideal) (e' := .bf16) x2 r0_8) x1 x6 x7 x8 x0 x4 x5 := by
  unfold out0_9 k0_pay18 blk
  refine (View.canon_cons_unit_lit (S := S512x1024) (off := ![0, 0]) _ _ _ (by decide)).trans ?_
  have h0 : View.ld (Val := Elt Ideal) (e' := .f32) x0 r0_9 = x0 := View.ld_unit_lit (Val := Elt Ideal) (e := .f32) (S := S512x1024) (off := ![0, 0]) _ x0 (by decide)
  have h1 : View.ld (Val := Elt Ideal) (e' := .bf16) x1 r0_9 = x1 := View.ld_unit_lit (Val := Elt Ideal) (e := .bf16) (S := S512x1024) (off := ![0, 0]) _ x1 (by decide)
  have h3 : View.ld (Val := Elt Ideal) (e' := .f32) x3 r0_0 = x3 := View.ld_unit_lit (Val := Elt Ideal) (e := .f32) (S := S512x8) (off := ![0, 0]) _ x3 (by decide)
  have h4 : View.ld (Val := Elt Ideal) (e' := .f32) x4 r0_12 = x4 := View.ld_unit_lit (Val := Elt Ideal) (e := .f32) (S := S1x1x1024) (off := ![0, 0, 0]) _ x4 (by decide)
  have h5 : View.ld (Val := Elt Ideal) (e' := .f32) x5 r0_13 = x5 := View.ld_unit_lit (Val := Elt Ideal) (e := .f32) (S := S1x1024) (off := ![0, 0]) _ x5 (by decide)
  have h6 : View.ld (Val := Elt Ideal) (e' := .bf16) x6 r0_10 = x6 := View.ld_unit_lit (Val := Elt Ideal) (e := .bf16) (S := S1024x256) (off := ![0, 0]) _ x6 (by decide)
  have h7 : View.ld (Val := Elt Ideal) (e' := .bf16) x7 r0_10 = x7 := View.ld_unit_lit (Val := Elt Ideal) (e := .bf16) (S := S1024x256) (off := ![0, 0]) _ x7 (by decide)
  have h8 : View.ld (Val := Elt Ideal) (e' := .bf16) x8 r0_11 = x8 := View.ld_unit_lit (Val := Elt Ideal) (e := .bf16) (S := S256x1024) (off := ![0, 0]) _ x8 (by decide)
  rw [h0, h1, h3, h4, h5, h6, h7, h8]

/-- The block of result rows a point computes, at an entry. -/
theorem entry (c : Dev nD) (t : Fin cfg0.N) (a : Fin 512) (o : Fin 1024) (r : Fin 32768) (hr : r.val = t.val * 512 + a.val) :
    blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) (ix2 a o) = OUT m c (ix2 r o) := by
  refine blk_at _ _ _ _ _ _ _ _ _ _ _ _ _ _ _ _ _ _ _ _ _ _ _ _ _ a r o (fun l => x_at m c t a l r hr)
    (fun l => gt_at m c t a l r hr) (fun l => gp_at m c t l) (fun k => w_at m c t a k r hr) ?_
    (fun k => h_at m c t a k r hr) (wg_at m c t) (wu_at m c t) (wd_at m c t)
  intro k l
  fin_cases k
  · exact y0_at m c t a l r hr
  · exact y1_at m c t a l r hr
  · exact y2_at m c t a l r hr
  · exact y3_at m c t a l r hr
  · exact y4_at m c t a l r hr
  · exact y5_at m c t a l r hr
  · exact y6_at m c t a l r hr
  · exact y7_at m c t a l r hr

/-- The same, at an index of the block and one of the array. -/
theorem entry_idx (c : Dev nD) (t : Fin cfg0.N) (i : S512x1024.Idx) (j : S32768x1024.Idx)
    (h0 : (j 0).val = t.val * 512 + (i 0).val) (h1 : (j 1).val = (i 1).val) :
    blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) i = OUT m c j := by
  have e1 : j 1 = i 1 := Fin.ext h1
  rw [eq_ix2 i, eq_ix2 j, e1]
  exact entry m c t (i 0) (i 1) (j 0) h0

/-- The result array after the call. -/
theorem final_9 (c : Dev nD) : (dats m 0 c).arrAt 9 (cfgs 0).N = OUT m c := by
  refine (dats m 0 c).arrAt_eq_of_covers 9 _ (by decide +kernel) fun t hf y => ?_
  blk_simp
  rw [after0_9]
  have ht := (idx t).1
  obtain_idx i : S512x1024 := [(y 0 : ℕ), (y 1 : ℕ)] with hi
  refine (congrFun (out_eq _ _ _ _ _ _ _ _ _) _).trans ?_
  refine Eq.trans (b := blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) i) ?_ (entry_idx m c t i _ ?_ ?_)
  · blk_ext
  all_goals (blk_simp [idx t] <;> try omega)

end Cert.Kernel3Ideal.Tail

end
-- ==== Proof.TailCellS.lean ====
/-
  What the final call's body computes of its blocks, read at an entry: the sample.
-/
module

public import proofs.«01_k».proof.Proof.Gen.Kernel5Ideal.Frame
public import proofs.«01_k».proof.Proof.TailDefs
public import Idealize.ShloMosaic.Lib.Pointwise

@[expose] public section

set_option maxRecDepth 16384

noncomputable section

namespace Cert.Kernel5Ideal.Tail

open Cert.Kernel5Ideal Cert.Kernel5Ideal.Gen Idealize.ShloMosaic Idealize.ShloMosaic.TcCoe Idealize.SL.Sem

/-- The experts' sum of a block of rows, read at an entry. -/
theorem mix_at (w : FVec Ideal S128x8 .f32) (y0 y1 y2 y3 y4 y5 y6 y7 : FVec Ideal S1x128x1024 .bf16)
    (h : FVec Ideal S128x1024 .bf16) (g u : FVec Ideal S1024x256 .bf16) (d : FVec Ideal S256x1024 .bf16)
    (a : Fin 128) (o : Fin 1024) :
    k0_pay17 (F := Ideal) (k0_pay2 (F := Ideal) w)
        (k0_pay12 (F := Ideal) (k0_pay2 (F := Ideal) w) (k0_pay7 (F := Ideal) w y0 y1 y2) (k0_pay8 (F := Ideal) y3) y4 y5)
        (k0_pay14 (F := Ideal) y6)
        (k0_pay15 (F := Ideal) (k0_pay2 (F := Ideal) w) (k0_pay6 (F := Ideal) w y0 y1 y2) (k0_pay9 (F := Ideal) y3) y4 y5 y6)
        (k0_pay16 (F := Ideal) (k0_pay2 (F := Ideal) w)) y7 h g u d (ix2 a o)
      = Cert.Tail.mix (fun k => w (ix2 a k))
          (fun k o => (![y0, y1, y2, y3, y4, y5, y6, y7] : Fin 8 → FVec Ideal S1x128x1024 .bf16) k (ix3 0 a o))
          (fun k => h (ix2 a k)) (fun k e => g (ix2 k e)) (fun k e => u (ix2 k e)) (fun e o => d (ix2 e o)) o := by
  unfold Cert.Tail.mix Cert.Moe.cell Cert.Moe.silu
  rw [Fin.sum_univ_eight]
  pointwise [k0_pay17, k0_pay2, k0_pay3, k0_pay4, k0_pay5, k0_pay6, k0_pay7, k0_pay8, k0_pay9, k0_pay10, k0_pay11, k0_pay12,
    k0_pay13, k0_pay14, k0_pay15, k0_pay16]
  by_cases ho : o.val < 512
  · rw [dif_pos (by omega)]
    simp only [zero_sub]
  · have e : (⟨512 + (o.val - 512), by omega⟩ : Fin 1024) = o := Fin.ext (by simp only []; omega)
    rw [dif_neg (by omega)]
    simp only [zero_sub, e]

/-- The result's block, read at an entry. -/
theorem out_at (f x : FVec Ideal S128x1024 .f32) (gt : FVec Ideal S1x128x1024 .f32) (gp : FVec Ideal S1x1024 .f32)
    (a : Fin 128) (o : Fin 1024) :
    k0_pay1 (F := Ideal) f x gt gp (ix2 a o)
      = Cert.Tail.out (fun l => x (ix2 a l)) (fun l => gt (ix3 0 a l)) (fun l => gp (ix2 0 l)) (fun l => f (ix2 a l)) o := by
  pointwise [k0_pay1, Cert.Tail.out]
  all_goals rfl

end Cert.Kernel5Ideal.Tail

end
-- ==== Proof.TailRefS.lean ====
/-
  What the reference of the final call computes, read at an entry: the sample.
-/
module

public import proofs.«01_k».proof.Proof.Gen.Reference5Ideal.Run
public import proofs.«01_k».proof.Proof.TailDefs
public import Idealize.ShloMosaic.Lib.Pointwise

@[expose] public section

set_option maxRecDepth 16384

noncomputable section

namespace Cert.Reference5Ideal.Tail

open Cert.Reference5Ideal Cert.Reference5Ideal.Gen Idealize.ShloMosaic Idealize.ShloMosaic.TcCoe Idealize.SL.Sem

/-- The weighted sum of the routed rows, and the shared expert. -/
def FS (H : FVec Ideal S128x1024 .bf16) (Y : FVec Ideal S8x128x1024 .bf16) (WT : FVec Ideal S8x128 .f32)
    (G U : FVec Ideal S1024x256 .f32) (D : FVec Ideal S256x1024 .f32) : FVec Ideal S128x1024 .f32 :=
  addf (Host.reduceAdd (mulf (extf .f32 Y bitsLt_bf16_f32) (broadcastInDim S8x128x1024 ![0, 1, 2] bcast_S8x128x1_S8x128x1024_0_1_2 (broadcastInDim S8x128x1 ![0, 1] bcast_S8x128_S8x128x1_0_1 WT))) (constant S_ .f32 0x00000000#32) reducesTo_S8x128x1024_S128x1024_d0 h_S_) (Host.dotGeneral dot_S128x256_S256x1024_S128x1024_1_0_0_1_n_n none (mulf (mulf (Host.dotGeneral dot_S128x1024_S1024x256_S128x256_1_0_0_1_n_n none (extf .f32 H bitsLt_bf16_f32) G) (Host.divf (broadcastInDim S128x256 ![] bcast_S_S128x256 (constant S_ .f32 0x3F800000#32)) (addf (broadcastInDim S128x256 ![] bcast_S_S128x256 (constant S_ .f32 0x3F800000#32)) (Host.exp (Host.negf (Host.dotGeneral dot_S128x1024_S1024x256_S128x256_1_0_0_1_n_n none (extf .f32 H bitsLt_bf16_f32) G)))))) (Host.dotGeneral dot_S128x1024_S1024x256_S128x256_1_0_0_1_n_n none (extf .f32 H bitsLt_bf16_f32) U)) D)

/-- The result from the experts' sum `Z`. -/
def core (X Z : FVec Ideal S128x1024 .f32) (GT : FVec Ideal S128x1x1024 .f32) (GP : FVec Ideal S1024 .f32) :
    FVec Ideal S128x1024 .f32 :=
  shapeCast S128x1024 (addf (shapeCast S128x1x1024 X shapeCasts_S128x1024_S128x1x1024) (mulf GT (mulf (mulf (shapeCast S128x1x1024 Z shapeCasts_S128x1024_S128x1x1024) (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf (shapeCast S128x1x1024 Z shapeCasts_S128x1024_S128x1x1024) (shapeCast S128x1x1024 Z shapeCasts_S128x1024_S128x1x1024)) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 GP))))) shapeCasts_S128x1x1024_S128x1024

/-- The result from the experts' sum, at an entry. -/
theorem core_at (X Z : FVec Ideal S128x1024 .f32) (GT : FVec Ideal S128x1x1024 .f32) (GP : FVec Ideal S1024 .f32)
    (r : Fin 128) (o : Fin 1024) :
    core X Z GT GP (ix2 r o)
      = Cert.Tail.out (fun l => X (ix2 r l)) (fun l => GT (ix3 r 0 l)) (fun l => GP (ix1 l)) (fun l => Z (ix2 r l)) o := by
  pointwise [core, Cert.Tail.out]
  all_goals simp only [zero_add]

/-- The result from the arguments. -/
def REF (X : FVec Ideal S128x1024 .f32) (H : FVec Ideal S128x1024 .bf16) (Y : FVec Ideal S8x128x1024 .bf16)
    (WT : FVec Ideal S8x128 .f32) (GT : FVec Ideal S128x1x1024 .f32) (GP : FVec Ideal S1024 .f32)
    (G U : FVec Ideal S1024x256 .f32) (D : FVec Ideal S256x1024 .f32) : FVec Ideal S128x1024 .f32 :=
  core X (FS H Y WT G U D) GT GP

/-- The experts' sum at an entry. -/
theorem FS_at (H : FVec Ideal S128x1024 .bf16) (Y : FVec Ideal S8x128x1024 .bf16) (WT : FVec Ideal S8x128 .f32)
    (G U : FVec Ideal S1024x256 .f32) (D : FVec Ideal S256x1024 .f32) (r : Fin 128) (o : Fin 1024) :
    FS H Y WT G U D (ix2 r o)
      = Cert.Tail.mix (fun k => WT (ix2 k r)) (fun k o => Y (ix3 k r o)) (fun k => H (ix2 r k)) (fun k e => G (ix2 k e))
          (fun k e => U (ix2 k e)) (fun e o => D (ix2 e o)) o := by
  pointwise [FS, Cert.Tail.mix, Cert.Moe.cell, Cert.Moe.silu]
  all_goals simp only [zero_add, mul_comm (WT _)]

/-- The result at an entry. -/
theorem REF_at (X : FVec Ideal S128x1024 .f32) (H : FVec Ideal S128x1024 .bf16) (Y : FVec Ideal S8x128x1024 .bf16)
    (WT : FVec Ideal S8x128 .f32) (GT : FVec Ideal S128x1x1024 .f32) (GP : FVec Ideal S1024 .f32)
    (G U : FVec Ideal S1024x256 .f32) (D : FVec Ideal S256x1024 .f32) (r : Fin 128) (o : Fin 1024) :
    REF X H Y WT GT GP G U D (ix2 r o)
      = Cert.Tail.out (fun l => X (ix2 r l)) (fun l => GT (ix3 r 0 l)) (fun l => GP (ix1 l))
          (fun l => FS H Y WT G U D (ix2 r l)) o := by
  exact core_at X _ GT GP r o

end Cert.Reference5Ideal.Tail

end
-- ==== Proof.TailValueS.lean ====
/-
  What the final call leaves in its result array: the sample.
-/
module

public import proofs.«01_k».proof.Proof.TailCellS
public import proofs.«01_k».proof.Proof.TailRefS
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel5Ideal.Tail

open Cert.Kernel5Ideal Cert.Kernel5Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at a grid point. -/
theorem idx : ∀ t : Fin cfg0.N, t.val < 1 ∧ win0_0.index t = ![0, 0] ∧ win0_1.index t = ![0, 0] ∧ win0_2.index t = ![0, 0, 0]
    ∧ win0_3.index t = ![0, 0] ∧ win0_4.index t = ![0, 0, 0] ∧ win0_5.index t = ![0, 0] ∧ win0_6.index t = ![0, 0]
    ∧ win0_7.index t = ![0, 0] ∧ win0_8.index t = ![0, 0] ∧ win0_9.index t = ![0, 0] :=
  (by decide +kernel : ∀ t : Fin grid0.N, _)

/-- The residual rows' block. -/
theorem x_at (c : Dev nD) (t : Fin cfg0.N) (a : Fin 128) (l : Fin 1024) (r : Fin 128) (hr : r.val = a.val) :
    (show FVec Ideal S128x1024 .f32 from iblk m c 0 t) (ix2 a l)
      = (m ((c : Thread nD τ).loc main_arg0) : FVec Ideal S128x1024 .f32) (ix2 r l) := by
  blk_point [iblk, V, idx t]

/-- The shared expert's rows' block. -/
theorem h_at (c : Dev nD) (t : Fin cfg0.N) (a : Fin 128) (l : Fin 1024) (r : Fin 128) (hr : r.val = a.val) :
    (show FVec Ideal S128x1024 .bf16 from iblk m c 1 t) (ix2 a l)
      = (m ((c : Thread nD τ).loc main_arg1) : FVec Ideal S128x1024 .bf16) (ix2 r l) := by
  blk_point [iblk, V, idx t]

/-- Routed row 0 of the eight. -/
theorem y0_at (c : Dev nD) (t : Fin cfg0.N) (a : Fin 128) (l : Fin 1024) (r : Fin 128) (hr : r.val = a.val) :
    (View.ld (iblk m c 2 t) r0_1 : FVec Ideal S1x128x1024 .bf16) (ix3 0 a l)
      = (m ((c : Thread nD τ).loc main_arg2) : FVec Ideal S8x128x1024 .bf16) (ix3 0 r l) := by
  blk_point [iblk, V, idx t]

/-- Routed row 1 of the eight. -/
theorem y1_at (c : Dev nD) (t : Fin cfg0.N) (a : Fin 128) (l : Fin 1024) (r : Fin 128) (hr : r.val = a.val) :
    (View.ld (iblk m c 2 t) r0_2 : FVec Ideal S1x128x1024 .bf16) (ix3 0 a l)
      = (m ((c : Thread nD τ).loc main_arg2) : FVec Ideal S8x128x1024 .bf16) (ix3 1 r l) := by
  blk_point [iblk, V, idx t]

/-- Routed row 2 of the eight. -/
theorem y2_at (c : Dev nD) (t : Fin cfg0.N) (a : Fin 128) (l : Fin 1024) (r : Fin 128) (hr : r.val = a.val) :
    (View.ld (iblk m c 2 t) r0_3 : FVec Ideal S1x128x1024 .bf16) (ix3 0 a l)
      = (m ((c : Thread nD τ).loc main_arg2) : FVec Ideal S8x128x1024 .bf16) (ix3 2 r l) := by
  blk_point [iblk, V, idx t]

/-- Routed row 3 of the eight. -/
theorem y3_at (c : Dev nD) (t : Fin cfg0.N) (a : Fin 128) (l : Fin 1024) (r : Fin 128) (hr : r.val = a.val) :
    (View.ld (iblk m c 2 t) r0_4 : FVec Ideal S1x128x1024 .bf16) (ix3 0 a l)
      = (m ((c : Thread nD τ).loc main_arg2) : FVec Ideal S8x128x1024 .bf16) (ix3 3 r l) := by
  blk_point [iblk, V, idx t]

/-- Routed row 4 of the eight. -/
theorem y4_at (c : Dev nD) (t : Fin cfg0.N) (a : Fin 128) (l : Fin 1024) (r : Fin 128) (hr : r.val = a.val) :
    (View.ld (iblk m c 2 t) r0_5 : FVec Ideal S1x128x1024 .bf16) (ix3 0 a l)
      = (m ((c : Thread nD τ).loc main_arg2) : FVec Ideal S8x128x1024 .bf16) (ix3 4 r l) := by
  blk_point [iblk, V, idx t]

/-- Routed row 5 of the eight. -/
theorem y5_at (c : Dev nD) (t : Fin cfg0.N) (a : Fin 128) (l : Fin 1024) (r : Fin 128) (hr : r.val = a.val) :
    (View.ld (iblk m c 2 t) r0_6 : FVec Ideal S1x128x1024 .bf16) (ix3 0 a l)
      = (m ((c : Thread nD τ).loc main_arg2) : FVec Ideal S8x128x1024 .bf16) (ix3 5 r l) := by
  blk_point [iblk, V, idx t]

/-- Routed row 6 of the eight. -/
theorem y6_at (c : Dev nD) (t : Fin cfg0.N) (a : Fin 128) (l : Fin 1024) (r : Fin 128) (hr : r.val = a.val) :
    (View.ld (iblk m c 2 t) r0_7 : FVec Ideal S1x128x1024 .bf16) (ix3 0 a l)
      = (m ((c : Thread nD τ).loc main_arg2) : FVec Ideal S8x128x1024 .bf16) (ix3 6 r l) := by
  blk_point [iblk, V, idx t]

/-- Routed row 7 of the eight. -/
theorem y7_at (c : Dev nD) (t : Fin cfg0.N) (a : Fin 128) (l : Fin 1024) (r : Fin 128) (hr : r.val = a.val) :
    (View.ld (iblk m c 2 t) r0_8 : FVec Ideal S1x128x1024 .bf16) (ix3 0 a l)
      = (m ((c : Thread nD τ).loc main_arg2) : FVec Ideal S8x128x1024 .bf16) (ix3 7 r l) := by
  blk_point [iblk, V, idx t]

/-- The row weights' block. -/
theorem w_at (c : Dev nD) (t : Fin cfg0.N) (a : Fin 128) (k : Fin 8) (r : Fin 128) (hr : r.val = a.val) :
    (show FVec Ideal S128x8 .f32 from iblk m c 3 t) (ix2 a k)
      = (m ((c : Thread nD τ).loc main_arg3) : FVec Ideal S8x128 .f32) (ix2 k r) := by
  blk_point [iblk, V, idx t]

/-- The gate's block. -/
theorem gt_at (c : Dev nD) (t : Fin cfg0.N) (a : Fin 128) (l : Fin 1024) (r : Fin 128) (hr : r.val = a.val) :
    (show FVec Ideal S1x128x1024 .f32 from iblk m c 4 t) (ix3 0 a l)
      = (m ((c : Thread nD τ).loc main_arg4) : FVec Ideal S128x1x1024 .f32) (ix3 r 0 l) := by
  blk_point [iblk, V, idx t]

/-- The gain. -/
theorem gp_at (c : Dev nD) (t : Fin cfg0.N) (l : Fin 1024) :
    (show FVec Ideal S1x1024 .f32 from iblk m c 5 t) (ix2 0 l)
      = (m ((c : Thread nD τ).loc main_arg5) : FVec Ideal S1024 .f32) (ix1 l) := by
  blk_point [iblk, V, idx t]

/-- The shared expert's gate weight. -/
theorem wg_at (c : Dev nD) (t : Fin cfg0.N) (k : Fin 1024) (e : Fin 256) :
    (show FVec Ideal S1024x256 .bf16 from iblk m c 6 t) (ix2 k e)
      = (m ((c : Thread nD τ).loc main_arg6) : FVec Ideal S1024x256 .f32) (ix2 k e) := by
  blk_point [iblk, V, idx t]

/-- The shared expert's up weight. -/
theorem wu_at (c : Dev nD) (t : Fin cfg0.N) (k : Fin 1024) (e : Fin 256) :
    (show FVec Ideal S1024x256 .bf16 from iblk m c 7 t) (ix2 k e)
      = (m ((c : Thread nD τ).loc main_arg7) : FVec Ideal S1024x256 .f32) (ix2 k e) := by
  blk_point [iblk, V, idx t]

/-- The shared expert's down weight. -/
theorem wd_at (c : Dev nD) (t : Fin cfg0.N) (e : Fin 256) (k : Fin 1024) :
    (show FVec Ideal S256x1024 .bf16 from iblk m c 8 t) (ix2 e k)
      = (m ((c : Thread nD τ).loc main_arg8) : FVec Ideal S256x1024 .f32) (ix2 e k) := by
  blk_point [iblk, V, idx t]

/-- The reference's result at the arguments a launch memory holds. -/
abbrev OUT (c : Dev nD) : FVec Ideal S128x1024 .f32 :=
  Cert.Reference5Ideal.Tail.REF (m ((c : Thread nD τ).loc main_arg0)) (m ((c : Thread nD τ).loc main_arg1))
    (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7))
    (m ((c : Thread nD τ).loc main_arg8))

/-- The block of result rows a point stores, from the blocks it reads. -/
def blk (w : FVec Ideal S128x8 .f32) (y0 y1 y2 y3 y4 y5 y6 y7 : FVec Ideal S1x128x1024 .bf16)
    (h : FVec Ideal S128x1024 .bf16) (g u : FVec Ideal S1024x256 .bf16) (d : FVec Ideal S256x1024 .bf16)
    (x : FVec Ideal S128x1024 .f32) (gt : FVec Ideal S1x128x1024 .f32) (gp : FVec Ideal S1x1024 .f32) :
    FVec Ideal S128x1024 .f32 :=
  k0_pay1 (F := Ideal) (k0_pay17 (F := Ideal) (k0_pay2 (F := Ideal) w)
        (k0_pay12 (F := Ideal) (k0_pay2 (F := Ideal) w) (k0_pay7 (F := Ideal) w y0 y1 y2) (k0_pay8 (F := Ideal) y3) y4 y5)
        (k0_pay14 (F := Ideal) y6)
        (k0_pay15 (F := Ideal) (k0_pay2 (F := Ideal) w) (k0_pay6 (F := Ideal) w y0 y1 y2) (k0_pay9 (F := Ideal) y3) y4 y5 y6)
        (k0_pay16 (F := Ideal) (k0_pay2 (F := Ideal) w)) y7 h g u d) x gt gp

/-- A block's entry is the reference's, when the blocks hold the row's entries. -/
theorem blk_at (w : FVec Ideal S128x8 .f32) (y0 y1 y2 y3 y4 y5 y6 y7 : FVec Ideal S1x128x1024 .bf16)
    (h : FVec Ideal S128x1024 .bf16) (g u : FVec Ideal S1024x256 .bf16) (d : FVec Ideal S256x1024 .bf16)
    (x : FVec Ideal S128x1024 .f32) (gt : FVec Ideal S1x128x1024 .f32) (gp : FVec Ideal S1x1024 .f32)
    (X : FVec Ideal S128x1024 .f32) (H : FVec Ideal S128x1024 .bf16) (Y : FVec Ideal S8x128x1024 .bf16)
    (WT : FVec Ideal S8x128 .f32) (GT : FVec Ideal S128x1x1024 .f32) (GP : FVec Ideal S1024 .f32)
    (G U : FVec Ideal S1024x256 .f32) (D : FVec Ideal S256x1024 .f32) (a : Fin 128) (r : Fin 128) (o : Fin 1024)
    (hx : ∀ l, x (ix2 a l) = X (ix2 r l)) (hgt : ∀ l, gt (ix3 0 a l) = GT (ix3 r 0 l))
    (hgp : ∀ l, gp (ix2 0 l) = GP (ix1 l)) (hw : ∀ k, w (ix2 a k) = WT (ix2 k r))
    (hy : ∀ k l, (![y0, y1, y2, y3, y4, y5, y6, y7] : Fin 8 → FVec Ideal S1x128x1024 .bf16) k (ix3 0 a l) = Y (ix3 k r l))
    (hh : ∀ k, h (ix2 a k) = H (ix2 r k)) (hg : ∀ k e, g (ix2 k e) = G (ix2 k e))
    (hu : ∀ k e, u (ix2 k e) = U (ix2 k e)) (hd : ∀ e k, d (ix2 e k) = D (ix2 e k)) :
    blk w y0 y1 y2 y3 y4 y5 y6 y7 h g u d x gt gp (ix2 a o)
      = Cert.Reference5Ideal.Tail.REF X H Y WT GT GP G U D (ix2 r o) := by
  rw [blk, out_at, Cert.Reference5Ideal.Tail.REF_at]
  simp only [mix_at, Cert.Reference5Ideal.Tail.FS_at, hx, hgt, hgp, hw, hy, hh, hg, hu, hd]

/-- The block a point leaves behind is the one it stores. -/
theorem out_eq (x0 : FVec Ideal S128x1024 .f32) (x1 : FVec Ideal S128x1024 .bf16) (x2 : FVec Ideal S8x128x1024 .bf16)
    (x3 : FVec Ideal S128x8 .f32) (x4 : FVec Ideal S1x128x1024 .f32) (x5 : FVec Ideal S1x1024 .f32)
    (x6 x7 : FVec Ideal S1024x256 .bf16) (x8 : FVec Ideal S256x1024 .bf16) :
    out0_9 (F := Ideal) x0 x1 x2 x3 x4 x5 x6 x7 x8
      = blk x3 (View.ld (Val := Elt Ideal) (e' := .bf16) x2 r0_1) (View.ld (Val := Elt Ideal) (e' := .bf16) x2 r0_2) (View.ld (Val := Elt Ideal) (e' := .bf16) x2 r0_3) (View.ld (Val := Elt Ideal) (e' := .bf16) x2 r0_4) (View.ld (Val := Elt Ideal) (e' := .bf16) x2 r0_5) (View.ld (Val := Elt Ideal) (e' := .bf16) x2 r0_6) (View.ld (Val := Elt Ideal) (e' := .bf16) x2 r0_7) (View.ld (Val := Elt Ideal) (e' := .bf16) x2 r0_8) x1 x6 x7 x8 x0 x4 x5 := by
  unfold out0_9 k0_pay18 blk
  refine (View.canon_cons_unit_lit (S := S128x1024) (off := ![0, 0]) _ _ _ (by decide)).trans ?_
  have h0 : View.ld (Val := Elt Ideal) (e' := .f32) x0 r0_9 = x0 := View.ld_unit_lit (Val := Elt Ideal) (e := .f32) (S := S128x1024) (off := ![0, 0]) _ x0 (by decide)
  have h1 : View.ld (Val := Elt Ideal) (e' := .bf16) x1 r0_9 = x1 := View.ld_unit_lit (Val := Elt Ideal) (e := .bf16) (S := S128x1024) (off := ![0, 0]) _ x1 (by decide)
  have h3 : View.ld (Val := Elt Ideal) (e' := .f32) x3 r0_0 = x3 := View.ld_unit_lit (Val := Elt Ideal) (e := .f32) (S := S128x8) (off := ![0, 0]) _ x3 (by decide)
  have h4 : View.ld (Val := Elt Ideal) (e' := .f32) x4 r0_12 = x4 := View.ld_unit_lit (Val := Elt Ideal) (e := .f32) (S := S1x128x1024) (off := ![0, 0, 0]) _ x4 (by decide)
  have h5 : View.ld (Val := Elt Ideal) (e' := .f32) x5 r0_13 = x5 := View.ld_unit_lit (Val := Elt Ideal) (e := .f32) (S := S1x1024) (off := ![0, 0]) _ x5 (by decide)
  have h6 : View.ld (Val := Elt Ideal) (e' := .bf16) x6 r0_10 = x6 := View.ld_unit_lit (Val := Elt Ideal) (e := .bf16) (S := S1024x256) (off := ![0, 0]) _ x6 (by decide)
  have h7 : View.ld (Val := Elt Ideal) (e' := .bf16) x7 r0_10 = x7 := View.ld_unit_lit (Val := Elt Ideal) (e := .bf16) (S := S1024x256) (off := ![0, 0]) _ x7 (by decide)
  have h8 : View.ld (Val := Elt Ideal) (e' := .bf16) x8 r0_11 = x8 := View.ld_unit_lit (Val := Elt Ideal) (e := .bf16) (S := S256x1024) (off := ![0, 0]) _ x8 (by decide)
  rw [h0, h1, h3, h4, h5, h6, h7, h8]

/-- The block of result rows a point computes, at an entry. -/
theorem entry (c : Dev nD) (t : Fin cfg0.N) (a : Fin 128) (o : Fin 1024) (r : Fin 128) (hr : r.val = a.val) :
    blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) (ix2 a o) = OUT m c (ix2 r o) := by
  refine blk_at _ _ _ _ _ _ _ _ _ _ _ _ _ _ _ _ _ _ _ _ _ _ _ _ _ a r o (fun l => x_at m c t a l r hr)
    (fun l => gt_at m c t a l r hr) (fun l => gp_at m c t l) (fun k => w_at m c t a k r hr) ?_
    (fun k => h_at m c t a k r hr) (wg_at m c t) (wu_at m c t) (wd_at m c t)
  intro k l
  fin_cases k
  · exact y0_at m c t a l r hr
  · exact y1_at m c t a l r hr
  · exact y2_at m c t a l r hr
  · exact y3_at m c t a l r hr
  · exact y4_at m c t a l r hr
  · exact y5_at m c t a l r hr
  · exact y6_at m c t a l r hr
  · exact y7_at m c t a l r hr

/-- The same, at an index of the block and one of the array. -/
theorem entry_idx (c : Dev nD) (t : Fin cfg0.N) (i : S128x1024.Idx) (j : S128x1024.Idx)
    (h0 : (j 0).val = (i 0).val) (h1 : (j 1).val = (i 1).val) :
    blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) i = OUT m c j := by
  have e1 : j 1 = i 1 := Fin.ext h1
  rw [eq_ix2 i, eq_ix2 j, e1]
  exact entry m c t (i 0) (i 1) (j 0) h0

/-- The result array after the call. -/
theorem final_9 (c : Dev nD) : (dats m 0 c).arrAt 9 (cfgs 0).N = OUT m c := by
  refine (dats m 0 c).arrAt_eq_of_covers 9 _ (by decide +kernel) fun t hf y => ?_
  blk_simp
  rw [after0_9]
  have ht := (idx t).1
  obtain_idx i : S128x1024 := [(y 0 : ℕ), (y 1 : ℕ)] with hi
  refine (congrFun (out_eq _ _ _ _ _ _ _ _ _) _).trans ?_
  refine Eq.trans (b := blk (iblk m c 3 t) (View.ld (Val := Elt Ideal) (e' := .bf16) (iblk m c 2 t) r0_1) (View.ld (Val := Elt Ideal) (e' := .bf16) (iblk m c 2 t) r0_2) (View.ld (Val := Elt Ideal) (e' := .bf16) (iblk m c 2 t) r0_3) (View.ld (Val := Elt Ideal) (e' := .bf16) (iblk m c 2 t) r0_4) (View.ld (Val := Elt Ideal) (e' := .bf16) (iblk m c 2 t) r0_5) (View.ld (Val := Elt Ideal) (e' := .bf16) (iblk m c 2 t) r0_6) (View.ld (Val := Elt Ideal) (e' := .bf16) (iblk m c 2 t) r0_7) (View.ld (Val := Elt Ideal) (e' := .bf16) (iblk m c 2 t) r0_8) (iblk m c 1 t) (iblk m c 6 t) (iblk m c 7 t) (iblk m c 8 t) (iblk m c 0 t) (iblk m c 4 t) (iblk m c 5 t) i) ?_ (entry_idx m c t i _ ?_ ?_)
  · blk_ext
  all_goals (blk_simp [idx t] <;> try omega)

end Cert.Kernel5Ideal.Tail

end
-- ==== Proof.SampleCell.lean ====
/-
  The sample's input projection, read at an entry: the two products of its one block of rows.
-/
module

public import proofs.«01_k».proof.Proof.Gen.Kernel4Ideal.Skeleton
public import proofs.«01_k».proof.Proof.PreCell
public import Idealize.ShloMosaic.Lib.Pointwise

@[expose] public section

set_option maxRecDepth 16384

noncomputable section

namespace Cert.Kernel4Ideal.Pre

open Cert.Kernel4Ideal Cert.Kernel4Ideal.Gen Idealize.ShloMosaic Idealize.ShloMosaic.TcCoe Idealize.SL.Sem

/-- The modulated rows, read at an entry. -/
theorem hid_at (x : FVec Ideal S128x1024 .f32) (g : FVec Ideal S1x1024 .f32) (sc sh : FVec Ideal S1x128x1024 .f32)
    (a : Fin 128) (k : Fin 1024) :
    k0_pay2 (F := Ideal) x g sc sh (ix2 a k)
      = Cert.Pre.hid (fun k => x (ix2 a k)) (fun k => g (ix2 0 k)) (fun k => sc (ix3 0 a k)) (fun k => sh (ix3 0 a k)) k := by
  pointwise [k0_pay2, Cert.Pre.hid]
  all_goals rfl

/-- The row-major product, read at an entry. -/
theorem rows_at (x : FVec Ideal S128x1024 .f32) (g : FVec Ideal S1x1024 .f32) (sc sh : FVec Ideal S1x128x1024 .f32)
    (w : FVec Ideal S1024x1280 .bf16) (a : Fin 128) (e : Fin 1280) :
    k0_pay3 (F := Ideal) x g sc sh w (ix2 a e)
      = Cert.Pre.proj (fun k => x (ix2 a k)) (fun k => g (ix2 0 k)) (fun k => sc (ix3 0 a k)) (fun k => sh (ix3 0 a k))
          (fun k => w (ix2 k e)) := by
  pointwise [k0_pay3, Cert.Pre.proj, hid_at]
  all_goals rfl

/-- The transposed product, read at an entry. -/
theorem cols_at (x : FVec Ideal S128x1024 .f32) (g : FVec Ideal S1x1024 .f32) (sc sh : FVec Ideal S1x128x1024 .f32)
    (w : FVec Ideal S1312x1024 .bf16) (e : Fin 1312) (a : Fin 128) :
    k0_pay4 (F := Ideal) x g sc sh w (ix2 e a)
      = Cert.Pre.proj (fun k => x (ix2 a k)) (fun k => g (ix2 0 k)) (fun k => sc (ix3 0 a k)) (fun k => sh (ix3 0 a k))
          (fun k => w (ix2 e k)) := by
  pointwise [k0_pay4, Cert.Pre.proj, hid_at]
  all_goals exact Finset.sum_congr rfl fun k _ => mul_comm _ _

end Cert.Kernel4Ideal.Pre
-- ==== Proof.SampleRef.lean ====
/-
  What the reference of the sample's input projection computes, read at an entry.
-/
module

public import proofs.«01_k».proof.Proof.Gen.Reference4Ideal
public import proofs.«01_k».proof.Proof.PreCell

@[expose] public section

set_option maxRecDepth 16384

noncomputable section

namespace Cert.Reference4Ideal.Pre

open Cert.Reference4Ideal Cert.Reference4Ideal.Gen Idealize.ShloMosaic Idealize.ShloMosaic.TcCoe Idealize.SL.Sem

/-- The modulated rows. -/
def H (X SC SH : FVec Ideal S128x1x1024 .f32) (G : FVec Ideal S1024 .f32) : FVec Ideal S128x1x1024 .f32 :=
  addf (mulf (mulf (mulf X (broadcastInDim S128x1x1024 ![0, 1, 2] bcast_S128x1x1_S128x1x1024_0_1_2 (Host.rsqrt (addf (Host.divf (broadcastInDim S128x1x1 ![0, 1] bcast_S128x1_S128x1x1_0_1 (Host.reduceAdd (mulf X X) (constant S_ .f32 0x00000000#32) reducesTo_S128x1x1024_S128x1_d2 h_S_)) (broadcastInDim S128x1x1 ![] bcast_S_S128x1x1 (constant S_ .f32 0x44800000#32))) (broadcastInDim S128x1x1 ![] bcast_S_S128x1x1 (constant S_ .f32 0x358637BD#32)))))) (broadcastInDim S128x1x1024 ![0, 1, 2] bcast_S1x1x1024_S128x1x1024_0_1_2 (broadcastInDim S1x1x1024 ![2] bcast_S1024_S1x1x1024_2 G))) (addf (broadcastInDim S128x1x1024 ![] bcast_S_S128x1x1024 (constant S_ .f32 0x3F800000#32)) SC)) SH

/-- The projected rows. -/
def Z (X SC SH : FVec Ideal S128x1x1024 .f32) (G : FVec Ideal S1024 .f32) (W : FVec Ideal S1024x1816 .f32) :
    FVec Ideal S128x1x1816 .f32 :=
  Host.dotGeneral dot_S128x1x1024_S1024x1816_S128x1x1816_2_0_01_1_n_n none (H X SC SH G) W

/-- A modulated row at an entry. -/
theorem H_at (X SC SH : FVec Ideal S128x1x1024 .f32) (G : FVec Ideal S1024 .f32) (b : Fin 128) (k : Fin 1024) :
    H X SC SH G (ix3 b 0 k) = Cert.Pre.hid (fun k => X (ix3 b 0 k)) (fun k => G (ix1 k)) (fun k => SC (ix3 b 0 k))
      (fun k => SH (ix3 b 0 k)) k := by
  pointwise [H, Cert.Pre.hid]
  all_goals simp only [zero_add]

/-- A projected row at an entry. -/
theorem Z_at (X SC SH : FVec Ideal S128x1x1024 .f32) (G : FVec Ideal S1024 .f32) (W : FVec Ideal S1024x1816 .f32)
    (b : Fin 128) (e : Fin 1816) :
    Z X SC SH G W (ix3 b 0 e) = Cert.Pre.proj (fun k => X (ix3 b 0 k)) (fun k => G (ix1 k)) (fun k => SC (ix3 b 0 k))
      (fun k => SH (ix3 b 0 k)) (fun k => W (ix2 k e)) := by
  pointwise [Z, Cert.Pre.proj, H_at]
  all_goals rfl

/-- Key or value array 0 of the six, the projected columns 512 to 639, at an entry. -/
theorem kv0_at (Z : FVec Ideal S128x1x1816 .f32) (r : Fin 128) (e : Fin 128) :
    (shapeCast _ (extractStridedSlice S128x1x128 ![0, 0, 0] (shapeCast _ (extractStridedSlice S128x1x768 ![0, 0, 512] Z slices_S128x1x1816_S128x1x768_0_0_512) shapeCasts_S128x1x768_S128x6x128) slices_S128x6x128_S128x1x128_0_0_0) shapeCasts_S128x1x128_S128x128 : FVec Ideal S128x128 .f32) (ix2 r e) = Z (ix3 r 0 ⟨512 + e.val, by omega⟩) := by
  pointwise []
  all_goals exact congrArg Z (congrArg (ix3 r 0) (Fin.ext (by simp only []; omega)))

/-- Key or value array 1 of the six, the projected columns 640 to 767, at an entry. -/
theorem kv1_at (Z : FVec Ideal S128x1x1816 .f32) (r : Fin 128) (e : Fin 128) :
    (shapeCast _ (extractStridedSlice S128x1x128 ![0, 1, 0] (shapeCast _ (extractStridedSlice S128x1x768 ![0, 0, 512] Z slices_S128x1x1816_S128x1x768_0_0_512) shapeCasts_S128x1x768_S128x6x128) slices_S128x6x128_S128x1x128_0_1_0) shapeCasts_S128x1x128_S128x128 : FVec Ideal S128x128 .f32) (ix2 r e) = Z (ix3 r 0 ⟨640 + e.val, by omega⟩) := by
  pointwise []
  all_goals exact congrArg Z (congrArg (ix3 r 0) (Fin.ext (by simp only []; omega)))

/-- Key or value array 2 of the six, the projected columns 768 to 895, at an entry. -/
theorem kv2_at (Z : FVec Ideal S128x1x1816 .f32) (r : Fin 128) (e : Fin 128) :
    (shapeCast _ (extractStridedSlice S128x1x128 ![0, 2, 0] (shapeCast _ (extractStridedSlice S128x1x768 ![0, 0, 512] Z slices_S128x1x1816_S128x1x768_0_0_512) shapeCasts_S128x1x768_S128x6x128) slices_S128x6x128_S128x1x128_0_2_0) shapeCasts_S128x1x128_S128x128 : FVec Ideal S128x128 .f32) (ix2 r e) = Z (ix3 r 0 ⟨768 + e.val, by omega⟩) := by
  pointwise []
  all_goals exact congrArg Z (congrArg (ix3 r 0) (Fin.ext (by simp only []; omega)))

/-- Key or value array 3 of the six, the projected columns 896 to 1023, at an entry. -/
theorem kv3_at (Z : FVec Ideal S128x1x1816 .f32) (r : Fin 128) (e : Fin 128) :
    (shapeCast _ (extractStridedSlice S128x1x128 ![0, 3, 0] (shapeCast _ (extractStridedSlice S128x1x768 ![0, 0, 512] Z slices_S128x1x1816_S128x1x768_0_0_512) shapeCasts_S128x1x768_S128x6x128) slices_S128x6x128_S128x1x128_0_3_0) shapeCasts_S128x1x128_S128x128 : FVec Ideal S128x128 .f32) (ix2 r e) = Z (ix3 r 0 ⟨896 + e.val, by omega⟩) := by
  pointwise []
  all_goals exact congrArg Z (congrArg (ix3 r 0) (Fin.ext (by simp only []; omega)))

/-- Key or value array 4 of the six, the projected columns 1024 to 1151, at an entry. -/
theorem kv4_at (Z : FVec Ideal S128x1x1816 .f32) (r : Fin 128) (e : Fin 128) :
    (shapeCast _ (extractStridedSlice S128x1x128 ![0, 4, 0] (shapeCast _ (extractStridedSlice S128x1x768 ![0, 0, 512] Z slices_S128x1x1816_S128x1x768_0_0_512) shapeCasts_S128x1x768_S128x6x128) slices_S128x6x128_S128x1x128_0_4_0) shapeCasts_S128x1x128_S128x128 : FVec Ideal S128x128 .f32) (ix2 r e) = Z (ix3 r 0 ⟨1024 + e.val, by omega⟩) := by
  pointwise []
  all_goals exact congrArg Z (congrArg (ix3 r 0) (Fin.ext (by simp only []; omega)))

/-- Key or value array 5 of the six, the projected columns 1152 to 1279, at an entry. -/
theorem kv5_at (Z : FVec Ideal S128x1x1816 .f32) (r : Fin 128) (e : Fin 128) :
    (shapeCast _ (extractStridedSlice S128x1x128 ![0, 5, 0] (shapeCast _ (extractStridedSlice S128x1x768 ![0, 0, 512] Z slices_S128x1x1816_S128x1x768_0_0_512) shapeCasts_S128x1x768_S128x6x128) slices_S128x6x128_S128x1x128_0_5_0) shapeCasts_S128x1x128_S128x128 : FVec Ideal S128x128 .f32) (ix2 r e) = Z (ix3 r 0 ⟨1152 + e.val, by omega⟩) := by
  pointwise []
  all_goals exact congrArg Z (congrArg (ix3 r 0) (Fin.ext (by simp only []; omega)))

/-- The recurrence's input, the last 512 projected columns, at an entry. -/
theorem u_at (Z : FVec Ideal S128x1x1816 .f32) (r : Fin 128) (e : Fin 512) :
    (shapeCast _ (extractStridedSlice S128x1x512 ![0, 0, 1304] Z slices_S128x1x1816_S128x1x512_0_0_1304) shapeCasts_S128x1x512_S128x512 : FVec Ideal S128x512 .f32) (ix2 r e) = Z (ix3 r 0 ⟨1304 + e.val, by omega⟩) := by
  pointwise []

/-- The scaled query, the first 512 projected columns with the row last, at an entry. -/
theorem q_at (Z : FVec Ideal S128x1x1816 .f32) (e : Fin 512) (r : Fin 128) :
    (truncf .bf16 (transpose S512x128 [1, 0] (shapeCast _ (mulf (extractStridedSlice S128x1x512 ![0, 0, 0] Z slices_S128x1x1816_S128x1x512_0_0_0) (broadcastInDim S128x1x512 ![] bcast_S_S128x1x512 (constant S_ .f32 0x3E38AA3B#32))) shapeCasts_S128x1x512_S128x512) transposes_S128x512_S512x128_1_0) bitsLt_bf16_f32 : FVec Ideal S512x128 .bf16) (ix2 e r)
      = Z (ix3 r 0 ⟨e.val, by omega⟩) * Ideal.ofBits .f32 0x3E38AA3B#32 := by
  pointwise []

end Cert.Reference4Ideal.Pre
-- ==== Proof.SampleValue.lean ====
/-
  What the sample's input projection leaves in its result arrays, and that these are the reference's.
-/
module

public import proofs.«01_k».proof.Proof.Gen.Kernel4Ideal.Frame
public import proofs.«01_k».proof.Proof.SampleCell
public import proofs.«01_k».proof.Proof.SampleRef
public import proofs.«01_k».proof.Proof.PreScale
public import Idealize.ShloMosaic.Lib.Pipeline.ValueKit
public import Idealize.ShloMosaic.Lib.Claim
public import Idealize.ShloMosaic.Lib.StableHlo.RunRead

@[expose] public section

set_option maxRecDepth 16384

noncomputable section

namespace Cert.Kernel4Ideal.Pre

open Cert.Kernel4Ideal Cert.Kernel4Ideal.Gen Idealize.ShloMosaic Idealize.ShloMosaic.TcCoe Idealize.SL.Sem
open Idealize.ShloMosaic.Pipeline (Dat)

variable (m : (ℓ : Loc nD τ sig) → Buf (Elt Ideal) ℓ)

/-- Every window's block index at the one grid point. -/
theorem idx : ∀ t : Fin cfg0.N, t.val < 1 ∧ win0_0.index t = ![0, 0] ∧ win0_1.index t = ![0, 0, 0] ∧ win0_2.index t = ![0, 0, 0]
    ∧ win0_3.index t = ![0, 0] ∧ win0_4.index t = ![0, 0] ∧ win0_5.index t = ![0, 0] ∧ win0_6.index t = ![0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] :=
  (by decide +kernel : ∀ t : Fin grid0.N, _)

/-- The rows' block. -/
theorem x_at (c : Dev nD) (t : Fin cfg0.N) (a : Fin 128) (k : Fin 1024) :
    (show FVec Ideal S128x1024 .f32 from iblk m c 0 t) (ix2 a k)
      = (m ((c : Thread nD τ).loc main_arg0) : FVec Ideal S128x1x1024 .f32) (ix3 a 0 k) := by
  blk_point [iblk, V, idx t]

/-- The scale's block. -/
theorem sc_at (c : Dev nD) (t : Fin cfg0.N) (a : Fin 128) (k : Fin 1024) :
    (show FVec Ideal S1x128x1024 .f32 from iblk m c 1 t) (ix3 0 a k)
      = (m ((c : Thread nD τ).loc main_arg1) : FVec Ideal S128x1x1024 .f32) (ix3 a 0 k) := by
  blk_point [iblk, V, idx t]

/-- The shift's block. -/
theorem sh_at (c : Dev nD) (t : Fin cfg0.N) (a : Fin 128) (k : Fin 1024) :
    (show FVec Ideal S1x128x1024 .f32 from iblk m c 2 t) (ix3 0 a k)
      = (m ((c : Thread nD τ).loc main_arg2) : FVec Ideal S128x1x1024 .f32) (ix3 a 0 k) := by
  blk_point [iblk, V, idx t]

/-- The gain. -/
theorem g_at (c : Dev nD) (t : Fin cfg0.N) (k : Fin 1024) :
    (show FVec Ideal S1x1024 .f32 from iblk m c 3 t) (ix2 0 k)
      = (m ((c : Thread nD τ).loc main_arg3) : FVec Ideal S1024 .f32) (ix1 k) := by
  blk_point [iblk, V, idx t]

/-- The row-major weight: the key and value columns beside the last 512 columns. -/
def wn (W : FVec Ideal S1024x1816 .f32) : FVec Ideal S1024x1280 .bf16 :=
  truncf .bf16 (concatenate S1024x1280 1 [⟨S1024x768, extractStridedSlice S1024x768 ![0, 512] W slices_S1024x1816_S1024x768_0_512⟩,
    ⟨S1024x512, extractStridedSlice S1024x512 ![0, 1304] W slices_S1024x1816_S1024x512_0_1304⟩]
    concatenates_S1024x768_S1024x512_S1024x1280_d1) bitsLt_bf16_f32

/-- The transposed weight: the scaled query columns, the key and value columns, and the gate columns `T`, as rows. -/
def wt (W : FVec Ideal S1024x1816 .f32) (T : FVec Ideal S1024x32 .f32) : FVec Ideal S1312x1024 .bf16 :=
  truncf .bf16 (transpose S1312x1024 [1, 0] (concatenate S1024x1312 1
    [⟨S1024x512, mulf (extractStridedSlice S1024x512 ![0, 0] W slices_S1024x1816_S1024x512_0_0)
      (broadcastInDim S1024x512 ![] bcast_S_S1024x512 (constant S_ .f32 0x3E38AA3B#32))⟩,
    ⟨S1024x768, extractStridedSlice S1024x768 ![0, 512] W slices_S1024x1816_S1024x768_0_512⟩, ⟨S1024x32, T⟩]
    concatenates_S1024x512_S1024x768_S1024x32_S1024x1312_d1) transposes_S1024x1312_S1312x1024_1_0) bitsLt_bf16_f32

/-- The row-major weight's column `f`: one of the key and value columns, or of the last 512. -/
theorem wn_at (W : FVec Ideal S1024x1816 .f32) (k : Fin 1024) (f : Fin 1280) (e : Fin 1816)
    (h : f.val < 768 ∧ e.val = 512 + f.val ∨ 768 ≤ f.val ∧ e.val = 536 + f.val) : wn W (ix2 k f) = W (ix2 k e) := by
  pointwise [wn]
  rcases h with h | h
  · rw [dif_pos (by omega)]
    exact congrArg W (congrArg (ix2 k) (Fin.ext (by simp only []; omega)))
  · rw [dif_neg (by omega)]
    exact congrArg W (congrArg (ix2 k) (Fin.ext (by simp only []; omega)))

/-- The transposed weight's first 512 rows: the query columns, scaled. -/
theorem wt_q_at (W : FVec Ideal S1024x1816 .f32) (T : FVec Ideal S1024x32 .f32) (k : Fin 1024) (e : Fin 1312)
    (h1 : e.val < 512) : wt W T (ix2 e k) = W (ix2 k ⟨e.val, by omega⟩) * Ideal.ofBits .f32 0x3E38AA3B#32 := by
  pointwise [wt]
  rw [dif_pos (by omega)]

/-- The row-major weight's block is the whole weight. -/
theorem iblk4 (c : Dev nD) (t : Fin cfg0.N) :
    (show FVec Ideal S1024x1280 .bf16 from iblk m c 4 t) = wn (m ((c : Thread nD τ).loc main_arg4)) := by
  have e : V m c main_v3 = wn (m ((c : Thread nD τ).loc main_arg4)) := by entry_read; rfl
  rw [← e]
  blk_ext! [iblk, idx t]

/-- The transposed weight's block is the whole weight. -/
theorem iblk5 (c : Dev nD) : ∃ T, ∀ t : Fin cfg0.N,
    (show FVec Ideal S1312x1024 .bf16 from iblk m c 5 t) = wt (m ((c : Thread nD τ).loc main_arg4)) T := by
  have e : ∃ T, V m c main_v15 = wt (m ((c : Thread nD τ).loc main_arg4)) T := by
    unfold V
    after_reads_simp
    exact ⟨_, rfl⟩
  obtain ⟨T, e⟩ := e
  refine ⟨T, fun t => ?_⟩
  rw [← e]
  blk_ext! [iblk, idx t]

/-- A row's projection onto the column `w`, at the arguments a launch memory holds. -/
abbrev PM (c : Dev nD) (w : Fin 1024 → EReal) (r : Fin 128) : EReal :=
  Cert.Pre.proj (fun k => (m ((c : Thread nD τ).loc main_arg0) : FVec Ideal S128x1x1024 .f32) (ix3 r 0 k))
    (fun k => (m ((c : Thread nD τ).loc main_arg3) : FVec Ideal S1024 .f32) (ix1 k))
    (fun k => (m ((c : Thread nD τ).loc main_arg1) : FVec Ideal S128x1x1024 .f32) (ix3 r 0 k))
    (fun k => (m ((c : Thread nD τ).loc main_arg2) : FVec Ideal S128x1x1024 .f32) (ix3 r 0 k)) w

/-- The weight's column `e` at a launch memory. -/
abbrev WM (c : Dev nD) (e : Fin 1816) (k : Fin 1024) : EReal :=
  (m ((c : Thread nD τ).loc main_arg4) : FVec Ideal S1024x1816 .f32) (ix2 k e)

/-- The projected rows, row-major. -/
abbrev rowsAt (c : Dev nD) (t : Fin cfg0.N) : FVec Ideal S128x1280 .f32 :=
  k0_pay3 (F := Ideal) (iblk m c 0 t) (iblk m c 3 t) (iblk m c 1 t) (iblk m c 2 t) (iblk m c 4 t)

/-- The projected rows, transposed. -/
abbrev colsAt (c : Dev nD) (t : Fin cfg0.N) : FVec Ideal S1312x128 .f32 :=
  k0_pay4 (F := Ideal) (iblk m c 0 t) (iblk m c 3 t) (iblk m c 1 t) (iblk m c 2 t) (iblk m c 5 t)

/-- The row-major projection at an entry. -/
theorem rows_entry (c : Dev nD) (t : Fin cfg0.N) (a : Fin 128) (f : Fin 1280) (e : Fin 1816)
    (h : f.val < 768 ∧ e.val = 512 + f.val ∨ 768 ≤ f.val ∧ e.val = 536 + f.val) :
    rowsAt m c t (ix2 a f) = PM m c (WM m c e) a := by
  refine (rows_at _ _ _ _ _ a f).trans ?_
  unfold PM
  congr 1
  · exact funext fun k => x_at m c t a k
  · exact funext fun k => g_at m c t k
  · exact funext fun k => sc_at m c t a k
  · exact funext fun k => sh_at m c t a k
  · exact funext fun k => (congrFun (iblk4 m c t) _).trans (wn_at _ k f e h)

/-- The transposed projection's query rows at an entry. -/
theorem cols_entry (c : Dev nD) (t : Fin cfg0.N) (a : Fin 128) (e : Fin 1312) (h1 : e.val < 512) :
    colsAt m c t (ix2 e a) = PM m c (fun k => WM m c ⟨e.val, by omega⟩ k * Ideal.ofBits .f32 0x3E38AA3B#32) a := by
  obtain ⟨T, hT⟩ := iblk5 m c
  refine (cols_at _ _ _ _ _ e a).trans ?_
  unfold PM
  congr 1
  · exact funext fun k => x_at m c t a k
  · exact funext fun k => g_at m c t k
  · exact funext fun k => sc_at m c t a k
  · exact funext fun k => sh_at m c t a k
  · exact funext fun k => (congrFun (hT t) _).trans (wt_q_at _ T k e h1)

/-- The array of the key or value columns from `o` on. -/
def KV (c : Dev nD) (o : ℕ) (ho : o + 128 ≤ 1816) : FVec Ideal S128x128 .f32 := fun i =>
  PM m c (WM m c ⟨o + (i 1).val, by have h : (i 1).val < 128 := (i 1).isLt; omega⟩) (i 0)

/-- The array of the recurrence's input, the last 512 columns. -/
def UA (c : Dev nD) : FVec Ideal S128x512 .f32 := fun i =>
  PM m c (WM m c ⟨1304 + (i 1).val, by have h : (i 1).val < 512 := (i 1).isLt; omega⟩) (i 0)

/-- The array of the scaled query, row last. -/
def QA (c : Dev nD) : FVec Ideal S512x128 .bf16 := fun i =>
  PM m c (fun k => WM m c ⟨(i 0).val, by have h : (i 0).val < 512 := (i 0).isLt; omega⟩ k * Ideal.ofBits .f32 0x3E38AA3B#32) (i 1)

/-- An entry of the row-major projection, at an entry of a key or value array. -/
theorem kv_core (c : Dev nD) (t : Fin cfg0.N) (o : ℕ) (h0 : 512 ≤ o) (h1 : o + 128 ≤ 1280) (i : S128x1280.Idx)
    (j : S128x128.Idx) (hi : (i 1).val + 512 = o + (j 1).val) (hj : (j 0).val = (i 0).val) :
    rowsAt m c t i = KV m c o (by omega) j := by
  have b1 : (j 1).val < 128 := (j 1).isLt
  have e0 : j 0 = i 0 := Fin.ext hj
  refine (congrArg (rowsAt m c t) (eq_ix2 i)).trans ?_
  unfold KV
  rw [e0]
  exact rows_entry m c t (i 0) (i 1) ⟨o + (j 1).val, by omega⟩ (.inl ⟨by omega, by simp only []; omega⟩)

/-- An entry of the row-major projection, at an entry of the recurrence's input. -/
theorem u_core (c : Dev nD) (t : Fin cfg0.N) (i : S128x1280.Idx) (j : S128x512.Idx) (hi : (i 1).val = 768 + (j 1).val)
    (hj : (j 0).val = (i 0).val) : rowsAt m c t i = UA m c j := by
  have b1 : (j 1).val < 512 := (j 1).isLt
  have e0 : j 0 = i 0 := Fin.ext hj
  refine (congrArg (rowsAt m c t) (eq_ix2 i)).trans ?_
  unfold UA
  rw [e0]
  exact rows_entry m c t (i 0) (i 1) ⟨1304 + (j 1).val, by omega⟩ (.inr ⟨by omega, by simp only []; omega⟩)

/-- An entry of the transposed projection, at an entry of the scaled query. -/
theorem q_core (c : Dev nD) (t : Fin cfg0.N) (i : S1312x128.Idx) (j : S512x128.Idx) (hi : (i 0).val = (j 0).val)
    (hj : (j 1).val = (i 1).val) : colsAt m c t i = QA m c j := by
  have b1 : (j 0).val < 512 := (j 0).isLt
  have e1 : j 1 = i 1 := Fin.ext hj
  refine (congrArg (colsAt m c t) (eq_ix2 i)).trans ?_
  refine (cols_entry m c t (i 1) (i 0) (by omega)).trans ?_
  unfold QA
  rw [e1]
  exact congrArg (fun e => PM m c (fun k => WM m c e k * Ideal.ofBits .f32 0x3E38AA3B#32) (i 1)) (Fin.ext hi)

/-- Key or value array 0 of the six after the call. -/
theorem final_6 (c : Dev nD) : (dats m 0 c).arrAt 6 (cfgs 0).N = KV m c 512 (by decide) := by
  refine (dats m 0 c).arrAt_eq_of_covers 6 _ (by decide +kernel) fun t hf y => ?_
  blk_simp
  rw [after0_6]
  unfold_out out0_6
  frame_out
  have ht := (idx t).1
  obtain_idx i : S128x1280 := [(y 0 : ℕ), 0 + (y 1 : ℕ)] with hi
  refine Eq.trans (b := k0_pay3 (F := Ideal) (iblk m c 0 t) (iblk m c 3 t) (iblk m c 1 t) (iblk m c 2 t) (iblk m c 4 t) i) ?_
    (kv_core m c t 512 (by decide) (by decide) i _ ?_ ?_)
  · open_payloads; pointwise; blk_ext
  all_goals (blk_simp [idx t] <;> try omega)

/-- Key or value array 1 of the six after the call. -/
theorem final_7 (c : Dev nD) : (dats m 0 c).arrAt 7 (cfgs 0).N = KV m c 640 (by decide) := by
  refine (dats m 0 c).arrAt_eq_of_covers 7 _ (by decide +kernel) fun t hf y => ?_
  blk_simp
  rw [after0_7]
  unfold_out out0_7
  frame_out
  have ht := (idx t).1
  obtain_idx i : S128x1280 := [(y 0 : ℕ), 128 + (y 1 : ℕ)] with hi
  refine Eq.trans (b := k0_pay3 (F := Ideal) (iblk m c 0 t) (iblk m c 3 t) (iblk m c 1 t) (iblk m c 2 t) (iblk m c 4 t) i) ?_
    (kv_core m c t 640 (by decide) (by decide) i _ ?_ ?_)
  · open_payloads; pointwise; blk_ext
  all_goals (blk_simp [idx t] <;> try omega)

/-- Key or value array 2 of the six after the call. -/
theorem final_8 (c : Dev nD) : (dats m 0 c).arrAt 8 (cfgs 0).N = KV m c 768 (by decide) := by
  refine (dats m 0 c).arrAt_eq_of_covers 8 _ (by decide +kernel) fun t hf y => ?_
  blk_simp
  rw [after0_8]
  unfold_out out0_8
  frame_out
  have ht := (idx t).1
  obtain_idx i : S128x1280 := [(y 0 : ℕ), 256 + (y 1 : ℕ)] with hi
  refine Eq.trans (b := k0_pay3 (F := Ideal) (iblk m c 0 t) (iblk m c 3 t) (iblk m c 1 t) (iblk m c 2 t) (iblk m c 4 t) i) ?_
    (kv_core m c t 768 (by decide) (by decide) i _ ?_ ?_)
  · open_payloads; pointwise; blk_ext
  all_goals (blk_simp [idx t] <;> try omega)

/-- Key or value array 3 of the six after the call. -/
theorem final_9 (c : Dev nD) : (dats m 0 c).arrAt 9 (cfgs 0).N = KV m c 896 (by decide) := by
  refine (dats m 0 c).arrAt_eq_of_covers 9 _ (by decide +kernel) fun t hf y => ?_
  blk_simp
  rw [after0_9]
  unfold_out out0_9
  frame_out
  have ht := (idx t).1
  obtain_idx i : S128x1280 := [(y 0 : ℕ), 384 + (y 1 : ℕ)] with hi
  refine Eq.trans (b := k0_pay3 (F := Ideal) (iblk m c 0 t) (iblk m c 3 t) (iblk m c 1 t) (iblk m c 2 t) (iblk m c 4 t) i) ?_
    (kv_core m c t 896 (by decide) (by decide) i _ ?_ ?_)
  · open_payloads; pointwise; blk_ext
  all_goals (blk_simp [idx t] <;> try omega)

/-- Key or value array 4 of the six after the call. -/
theorem final_10 (c : Dev nD) : (dats m 0 c).arrAt 10 (cfgs 0).N = KV m c 1024 (by decide) := by
  refine (dats m 0 c).arrAt_eq_of_covers 10 _ (by decide +kernel) fun t hf y => ?_
  blk_simp
  rw [after0_10]
  unfold_out out0_10
  frame_out
  have ht := (idx t).1
  obtain_idx i : S128x1280 := [(y 0 : ℕ), 512 + (y 1 : ℕ)] with hi
  refine Eq.trans (b := k0_pay3 (F := Ideal) (iblk m c 0 t) (iblk m c 3 t) (iblk m c 1 t) (iblk m c 2 t) (iblk m c 4 t) i) ?_
    (kv_core m c t 1024 (by decide) (by decide) i _ ?_ ?_)
  · open_payloads; pointwise; blk_ext
  all_goals (blk_simp [idx t] <;> try omega)

/-- Key or value array 5 of the six after the call. -/
theorem final_11 (c : Dev nD) : (dats m 0 c).arrAt 11 (cfgs 0).N = KV m c 1152 (by decide) := by
  refine (dats m 0 c).arrAt_eq_of_covers 11 _ (by decide +kernel) fun t hf y => ?_
  blk_simp
  rw [after0_11]
  unfold_out out0_11
  frame_out
  have ht := (idx t).1
  obtain_idx i : S128x1280 := [(y 0 : ℕ), 640 + (y 1 : ℕ)] with hi
  refine Eq.trans (b := k0_pay3 (F := Ideal) (iblk m c 0 t) (iblk m c 3 t) (iblk m c 1 t) (iblk m c 2 t) (iblk m c 4 t) i) ?_
    (kv_core m c t 1152 (by decide) (by decide) i _ ?_ ?_)
  · open_payloads; pointwise; blk_ext
  all_goals (blk_simp [idx t] <;> try omega)

/-- The recurrence's input after the call. -/
theorem final_12 (c : Dev nD) : (dats m 0 c).arrAt 12 (cfgs 0).N = UA m c := by
  refine (dats m 0 c).arrAt_eq_of_covers 12 _ (by decide +kernel) fun t hf y => ?_
  blk_simp
  rw [after0_12]
  unfold_out out0_12
  frame_out
  have ht := (idx t).1
  obtain_idx i : S128x1280 := [(y 0 : ℕ), 768 + (y 1 : ℕ)] with hi
  refine Eq.trans (b := k0_pay3 (F := Ideal) (iblk m c 0 t) (iblk m c 3 t) (iblk m c 1 t) (iblk m c 2 t) (iblk m c 4 t) i) ?_
    (u_core m c t i _ ?_ ?_)
  · open_payloads; pointwise; blk_ext
  all_goals (blk_simp [idx t] <;> try omega)

/-- The scaled query after the call. -/
theorem final_13 (c : Dev nD) : (dats m 0 c).arrAt 13 (cfgs 0).N = QA m c := by
  refine (dats m 0 c).arrAt_eq_of_covers 13 _ (by decide +kernel) fun t hf y => ?_
  blk_simp
  rw [after0_13]
  unfold_out out0_13
  frame_out
  have ht := (idx t).1
  obtain_idx i : S1312x128 := [(y 0 : ℕ), (y 1 : ℕ)] with hi
  refine Eq.trans (b := k0_pay4 (F := Ideal) (iblk m c 0 t) (iblk m c 3 t) (iblk m c 1 t) (iblk m c 2 t) (iblk m c 5 t) i) ?_
    (q_core m c t i _ ?_ ?_)
  · open_payloads; pointwise; blk_ext
  all_goals (blk_simp [idx t] <;> try omega)

/-- The reference's projected rows at the arguments a launch memory holds. -/
abbrev ZM (c : Dev nD) : FVec Ideal Cert.Reference4Ideal.S128x1x1816 .f32 :=
  Cert.Reference4Ideal.Pre.Z (m ((c : Thread nD τ).loc main_arg0)) (m ((c : Thread nD τ).loc main_arg1))
    (m ((c : Thread nD τ).loc main_arg2)) (m ((c : Thread nD τ).loc main_arg3)) (m ((c : Thread nD τ).loc main_arg4))

/-- A projected row of the reference at an entry. -/
theorem ZM_at (c : Dev nD) (r : Fin 128) (e : Fin 1816) : ZM m c (ix3 r 0 e) = PM m c (WM m c e) r :=
  Cert.Reference4Ideal.Pre.Z_at _ _ _ _ _ r e

/-- An array that has the reference's columns from `o` on is the launch's. -/
theorem kv_eq (c : Dev nD) (o : ℕ) (ho : o + 128 ≤ 1816) (f : FVec Ideal S128x128 .f32)
    (hf : ∀ (r : Fin 128) (e : Fin 128), f (ix2 r e) = ZM m c (ix3 r 0 ⟨o + e.val, by omega⟩)) : f = KV m c o ho := by
  funext i
  refine (congrArg f (eq_ix2 i)).trans ?_
  refine (hf (i 0) (i 1)).trans ?_
  exact ZM_at m c _ _

/-- An array that has the reference's last 512 columns is the launch's. -/
theorem u_eq (c : Dev nD) (f : FVec Ideal S128x512 .f32)
    (hf : ∀ (r : Fin 128) (e : Fin 512), f (ix2 r e) = ZM m c (ix3 r 0 ⟨1304 + e.val, by omega⟩)) : f = UA m c := by
  funext i
  refine (congrArg f (eq_ix2 i)).trans ?_
  refine (hf (i 0) (i 1)).trans ?_
  exact ZM_at m c _ _

/-- An array that has the reference's first 512 columns scaled, row last, is the launch's. -/
theorem q_eq (c : Dev nD) (f : FVec Ideal S512x128 .bf16)
    (hf : ∀ (e : Fin 512) (r : Fin 128), f (ix2 e r) = ZM m c (ix3 r 0 ⟨e.val, by omega⟩) * Ideal.ofBits .f32 0x3E38AA3B#32) :
    f = QA m c := by
  funext i
  refine (congrArg f (eq_ix2 i)).trans ?_
  refine (hf (i 0) (i 1)).trans ?_
  refine (congrArg (· * Ideal.ofBits .f32 0x3E38AA3B#32) (ZM_at m c (i 1) ⟨(i 0).val, by have h : (i 0).val < 512 := (i 0).isLt; omega⟩)).trans ?_
  exact (Cert.Pre.proj_scale _ _ _ _ _).symm

end Cert.Kernel4Ideal.Pre
-- ==== Proof.lean ====
/-
  The certificate: every run of the grouped expert MLP, of the two input projections and of the two final combinations,
  as printed and over the extended reals, ends with its arguments unchanged and every counter at zero, and over the extended
  reals the results are the references'.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Pre_expert_in_range
public import proofs.«01_k».proof.Proof.Pre
public import proofs.«01_k».proof.Proof.Equation
public import proofs.«01_k».proof.Proof.PreEquation
public import proofs.«01_k».proof.Proof.TailValue
public import proofs.«01_k».proof.Proof.TailValueS
public import proofs.«01_k».proof.Proof.SampleValue
public import proofs.«01_k».proof.Proof.RunBits
public import Idealize.ShloMosaic.Adequacy
public import Idealize.ShloMosaic.Init
public import Idealize.ShloMosaic.Lib.Quiescent

@[expose] public section

set_option maxRecDepth 16384

noncomputable section

namespace Cert.Proof

open Idealize.ShloMosaic Idealize.SL.Sem Idealize.ShloMosaic.TcCoe

/-- There is one device. -/
abbrev dK : Dev Cert.Kernel.nD := (0 : Fin 1)
abbrev dI : Dev Cert.KernelIdeal.nD := (0 : Fin 1)
theorem dev_eq (c : Dev Cert.KernelIdeal.nD) : c = dI := Subsingleton.elim (α := Fin 1) _ _

/-- The kernel's frame, at its words. -/
theorem frame_kernel : Cert.quiescent_Kernel (hKernel := Cert.Kernel.Gen.facts) (hPre_expert_in_range := Cert.Pre_expert_in_range.Gen.facts) := by
  intro m g h
  have hT : Cert.Kernel.Moe.InRange (F := Bits) (m ((dK.tc : Thread Cert.Kernel.nD Cert.Kernel.τ).loc Cert.Kernel.main_arg1)) := fun j =>
    Cert.Pre_expert_in_range.Moe.in_range _ _ _ _ _ _ (h (0 : Fin 1)) j
  exact Cert.Kernel.Moe.frame_of _ (m ((dK.tc : Thread Cert.Kernel.nD Cert.Kernel.τ).loc Cert.Kernel.main_arg2)) hT m g fun c => by
    obtain rfl := dev_eq c
    exact ⟨rfl, rfl⟩

/-- The kernel's frame over the extended reals. -/
theorem frame_ideal : Cert.quiescent_KernelIdeal (hKernelIdeal := Cert.KernelIdeal.Gen.facts) (hPre_expert_in_range := Cert.Pre_expert_in_range.Gen.facts) := by
  intro m g h
  have hT : Cert.KernelIdeal.Moe.InRange (F := Ideal) (m ((dI.tc : Thread Cert.KernelIdeal.nD Cert.KernelIdeal.τ).loc Cert.KernelIdeal.main_arg1)) := fun j =>
    Cert.Pre_expert_in_range.Moe.in_range _ _ _ _ _ _ (h (0 : Fin 1)) j
  exact Cert.KernelIdeal.Moe.frame_of _ (m ((dI.tc : Thread Cert.KernelIdeal.nD Cert.KernelIdeal.τ).loc Cert.KernelIdeal.main_arg2)) hT m g fun c => by
    obtain rfl := dev_eq c
    exact ⟨rfl, rfl⟩

/-- The reference's frame. -/
theorem frame_reference : Cert.quiescent_ReferenceIdeal (hReferenceIdeal := Cert.ReferenceIdeal.Gen.facts) (hPre_expert_in_range := Cert.Pre_expert_in_range.Gen.facts) := by
  intro m g _
  exact (θ_run _ _ _).mono (fun r h => ⟨fun c => (h c).2, sem_eq_zero_of_no_sems rfl r.2⟩) (Cert.ReferenceIdeal.Value.run m g)

/-- The kernel's result and the reference's are one array. -/
theorem value : Cert.algebraic_KernelIdeal_ReferenceIdeal (hKernelIdeal := Cert.KernelIdeal.Gen.facts) (hReferenceIdeal := Cert.ReferenceIdeal.Gen.facts) (hPre_expert_in_range := Cert.Pre_expert_in_range.Gen.facts) := by
  intro m g m' g' h ha
  have hT : Cert.KernelIdeal.Moe.InRange (F := Ideal) (m ((dI.tc : Thread Cert.KernelIdeal.nD Cert.KernelIdeal.τ).loc Cert.KernelIdeal.main_arg1)) := fun j =>
    Cert.Pre_expert_in_range.Moe.in_range _ _ _ _ _ _ (h (0 : Fin 1)) j
  have hm : Cert.KernelIdeal.Moe.Holds (F := Ideal) (m ((dI.tc : Thread Cert.KernelIdeal.nD Cert.KernelIdeal.τ).loc Cert.KernelIdeal.main_arg1)) (m ((dI.tc : Thread Cert.KernelIdeal.nD Cert.KernelIdeal.τ).loc Cert.KernelIdeal.main_arg2)) m := fun c => by
    obtain rfl := dev_eq c
    exact ⟨rfl, rfl⟩
  refine ⟨Cert.KernelIdeal.Moe.resOf _ (m ((dI.tc : Thread Cert.KernelIdeal.nD Cert.KernelIdeal.τ).loc Cert.KernelIdeal.main_arg2)) hT m g, ?_, ?_⟩
  · exact (θ_run _ _ _).mono (fun r k c => ⟨k.1 c, k.2 c⟩) (Cert.KernelIdeal.Moe.value_of _ _ hT m g hm)
  · refine (θ_run _ _ _).mono (fun r k c => ⟨(k c).1.trans ?_, (k c).2⟩) (Cert.ReferenceIdeal.Value.run m' g')
    obtain ⟨a0, a1, a2, a3, a4, a5⟩ := ha c
    obtain rfl := dev_eq c
    rw [Cert.KernelIdeal.Moe.res_eq_ref _ _ hT m g dI]
    rw [a0, a1, a2, a3, a4, a5]
    rfl

/-- The input projection's frame, at its words. -/
theorem frame_kernel2 : Cert.quiescent_Kernel2 (hKernel2 := Cert.Kernel2.Gen.facts) :=
  fun m g _ => Cert.Kernel2.Gen.frame m g

/-- The input projection's frame over the extended reals. -/
theorem frame_ideal2 : Cert.quiescent_Kernel2Ideal (hKernel2Ideal := Cert.Kernel2Ideal.Gen.facts) :=
  fun m g _ => Cert.Kernel2Ideal.Gen.frame m g

/-- The input projection's reference's frame. -/
theorem frame_reference2 : Cert.quiescent_Reference2Ideal (hReference2Ideal := Cert.Reference2Ideal.Gen.facts) := by
  intro m g _
  exact (θ_run _ _ _).mono (fun r h => ⟨fun c => (h c).2.2.2.2.2.2.2.2, sem_eq_zero_of_no_sems rfl r.2⟩) (Cert.Reference2Ideal.Value.run m g)

open Cert.Kernel2Ideal.Pre Cert.Reference2Ideal.Pre in
/-- The input projection's eight claimed results and its reference's are the same arrays. -/
theorem value2 : Cert.algebraic_Kernel2Ideal_Reference2Ideal (hKernel2Ideal := Cert.Kernel2Ideal.Gen.facts) (hReference2Ideal := Cert.Reference2Ideal.Gen.facts) := by
  intro m g m' g' _ ha
  refine ⟨fun c => KV m c 512 (by decide), fun c => KV m c 640 (by decide), fun c => KV m c 768 (by decide),
    fun c => KV m c 896 (by decide), fun c => KV m c 1024 (by decide), fun c => KV m c 1152 (by decide),
    fun c => UA m c, fun c => QA m c, ?_, ?_⟩
  · refine (θ_run _ _ _).mono (fun r k c => ?_) (Cert.Kernel2Ideal.Value.run_blocks m g)
    obtain ⟨k6, k7, k8, k9, k10, k11, -, -, k14, -, -, k17, -, -, -, -, ka⟩ := k c
    exact ⟨k6.trans (final_6 m c), k7.trans (final_7 m c), k8.trans (final_8 m c), k9.trans (final_9 m c),
      k10.trans (final_10 m c), k11.trans (final_11 m c), k14.trans (final_14 m c), k17.trans (final_17 m c), ka⟩
  · refine (θ_run _ _ _).mono (fun r k c => ?_) (Cert.Reference2Ideal.Value.run m' g')
    obtain ⟨k0, k1, k2, k3, k4, k5, k6, k7, ka⟩ := k c
    obtain ⟨a0, a1, a2, a3, a4⟩ := ha c
    refine ⟨k0.trans ?_, k1.trans ?_, k2.trans ?_, k3.trans ?_, k4.trans ?_, k5.trans ?_, k6.trans ?_, k7.trans ?_, ka⟩
    all_goals rw [a0, a1, a2, a3, a4]
    · exact kv_eq m c 512 _ _ (kv0_at (ZM m c))
    · exact kv_eq m c 640 _ _ (kv1_at (ZM m c))
    · exact kv_eq m c 768 _ _ (kv2_at (ZM m c))
    · exact kv_eq m c 896 _ _ (kv3_at (ZM m c))
    · exact kv_eq m c 1024 _ _ (kv4_at (ZM m c))
    · exact kv_eq m c 1152 _ _ (kv5_at (ZM m c))
    · exact u_eq m c _ (u_at (ZM m c))
    · exact q_eq m c _ (q_at (ZM m c))

/-- The frame of the prompt's final combination, at its words. -/
theorem frame_kernel3 : Cert.quiescent_Kernel3 (hKernel3 := Cert.Kernel3.Gen.facts) :=
  fun m g _ => Cert.Kernel3.Gen.frame m g

/-- The frame of the prompt's final combination, over the extended reals. -/
theorem frame_ideal3 : Cert.quiescent_Kernel3Ideal (hKernel3Ideal := Cert.Kernel3Ideal.Gen.facts) :=
  fun m g _ => Cert.Kernel3Ideal.Gen.frame m g

/-- The frame of the prompt's final combination's reference. -/
theorem frame_reference3 : Cert.quiescent_Reference3Ideal (hReference3Ideal := Cert.Reference3Ideal.Gen.facts) := by
  intro m g _
  exact (θ_run _ _ _).mono (fun r h => ⟨fun c => (h c).2, sem_eq_zero_of_no_sems rfl r.2⟩) (Cert.Reference3Ideal.Value.run m g)

open Cert.Kernel3Ideal.Tail in
/-- The result of the prompt's final combination and its reference's are one array. -/
theorem value3 : Cert.algebraic_Kernel3Ideal_Reference3Ideal (hKernel3Ideal := Cert.Kernel3Ideal.Gen.facts) (hReference3Ideal := Cert.Reference3Ideal.Gen.facts) := by
  intro m g m' g' _ ha
  refine ⟨fun c => OUT m c, ?_, ?_⟩
  · refine (θ_run _ _ _).mono (fun r k c => ?_) (Cert.Kernel3Ideal.Value.run_blocks m g)
    obtain ⟨k9, ka⟩ := k c
    exact ⟨k9.trans (final_9 m c), ka⟩
  · refine (θ_run _ _ _).mono (fun r k c => ?_) (Cert.Reference3Ideal.Value.run m' g')
    obtain ⟨k0, ka⟩ := k c
    obtain ⟨a0, a1, a2, a3, a4, a5, a6, a7, a8⟩ := ha c
    refine ⟨k0.trans ?_, ka⟩
    unfold Cert.Reference3Ideal.Value.res_main_v30
    rw [a0, a1, a2, a3, a4, a5, a6, a7, a8]
    rfl

/-- The frame of the sample's final combination, at its words. -/
theorem frame_kernel5 : Cert.quiescent_Kernel5 (hKernel5 := Cert.Kernel5.Gen.facts) :=
  fun m g _ => Cert.Kernel5.Gen.frame m g

/-- The frame of the sample's final combination, over the extended reals. -/
theorem frame_ideal5 : Cert.quiescent_Kernel5Ideal (hKernel5Ideal := Cert.Kernel5Ideal.Gen.facts) :=
  fun m g _ => Cert.Kernel5Ideal.Gen.frame m g

/-- The frame of the sample's final combination's reference. -/
theorem frame_reference5 : Cert.quiescent_Reference5Ideal (hReference5Ideal := Cert.Reference5Ideal.Gen.facts) := by
  intro m g _
  exact (θ_run _ _ _).mono (fun r h => ⟨fun c => (h c).2, sem_eq_zero_of_no_sems rfl r.2⟩) (Cert.Reference5Ideal.Value.run m g)

open Cert.Kernel5Ideal.Tail in
/-- The result of the sample's final combination and its reference's are one array. -/
theorem value5 : Cert.algebraic_Kernel5Ideal_Reference5Ideal (hKernel5Ideal := Cert.Kernel5Ideal.Gen.facts) (hReference5Ideal := Cert.Reference5Ideal.Gen.facts) := by
  intro m g m' g' _ ha
  refine ⟨fun c => OUT m c, ?_, ?_⟩
  · refine (θ_run _ _ _).mono (fun r k c => ?_) (Cert.Kernel5Ideal.Value.run_blocks m g)
    obtain ⟨k9, ka⟩ := k c
    exact ⟨k9.trans (final_9 m c), ka⟩
  · refine (θ_run _ _ _).mono (fun r k c => ?_) (Cert.Reference5Ideal.Value.run m' g')
    obtain ⟨k0, ka⟩ := k c
    obtain ⟨a0, a1, a2, a3, a4, a5, a6, a7, a8⟩ := ha c
    refine ⟨k0.trans ?_, ka⟩
    unfold Cert.Reference5Ideal.Value.res_main_v29
    rw [a0, a1, a2, a3, a4, a5, a6, a7, a8]
    rfl

/-- The frame of the sample's input projection, at its words. -/
theorem frame_kernel4 : Cert.quiescent_Kernel4 (hKernel4 := Cert.Kernel4.Gen.facts) :=
  fun m g _ => Cert.Kernel4.Gen.frame m g

/-- The frame of the sample's input projection, over the extended reals. -/
theorem frame_ideal4 : Cert.quiescent_Kernel4Ideal (hKernel4Ideal := Cert.Kernel4Ideal.Gen.facts) :=
  fun m g _ => Cert.Kernel4Ideal.Gen.frame m g

/-- The frame of the reference of the sample's input projection. -/
theorem frame_reference4 : Cert.quiescent_Reference4Ideal (hReference4Ideal := Cert.Reference4Ideal.Gen.facts) := by
  intro m g _
  exact (θ_run _ _ _).mono (fun r h => ⟨fun c => (h c).2.2.2.2.2.2.2.2, sem_eq_zero_of_no_sems rfl r.2⟩) (Cert.Reference4Ideal.Value.run m g)

open Cert.Kernel4Ideal.Pre Cert.Reference4Ideal.Pre in
/-- The eight claimed results of the sample's input projection and its reference's are the same arrays. -/
theorem value4 : Cert.algebraic_Kernel4Ideal_Reference4Ideal (hKernel4Ideal := Cert.Kernel4Ideal.Gen.facts) (hReference4Ideal := Cert.Reference4Ideal.Gen.facts) := by
  intro m g m' g' _ ha
  refine ⟨fun c => KV m c 512 (by decide), fun c => KV m c 640 (by decide), fun c => KV m c 768 (by decide),
    fun c => KV m c 896 (by decide), fun c => KV m c 1024 (by decide), fun c => KV m c 1152 (by decide),
    fun c => UA m c, fun c => QA m c, ?_, ?_⟩
  · refine (θ_run _ _ _).mono (fun r k c => ?_) (Cert.Kernel4Ideal.Value.run_blocks m g)
    obtain ⟨k6, k7, k8, k9, k10, k11, k12, k13, -, ka⟩ := k c
    exact ⟨k6.trans (final_6 m c), k7.trans (final_7 m c), k8.trans (final_8 m c), k9.trans (final_9 m c),
      k10.trans (final_10 m c), k11.trans (final_11 m c), k12.trans (final_12 m c), k13.trans (final_13 m c), ka⟩
  · refine (θ_run _ _ _).mono (fun r k c => ?_) (Cert.Reference4Ideal.Value.run m' g')
    obtain ⟨k0, k1, k2, k3, k4, k5, k6, k7, ka⟩ := k c
    obtain ⟨a0, a1, a2, a3, a4⟩ := ha c
    refine ⟨k0.trans ?_, k1.trans ?_, k2.trans ?_, k3.trans ?_, k4.trans ?_, k5.trans ?_, k6.trans ?_, k7.trans ?_, ka⟩
    all_goals rw [a0, a1, a2, a3, a4]
    · exact kv_eq m c 512 _ _ (kv0_at (ZM m c))
    · exact kv_eq m c 640 _ _ (kv1_at (ZM m c))
    · exact kv_eq m c 768 _ _ (kv2_at (ZM m c))
    · exact kv_eq m c 896 _ _ (kv3_at (ZM m c))
    · exact kv_eq m c 1024 _ _ (kv4_at (ZM m c))
    · exact kv_eq m c 1152 _ _ (kv5_at (ZM m c))
    · exact u_eq m c _ (u_at (ZM m c))
    · exact q_eq m c _ (q_at (ZM m c))

/-- Everything claimed. -/
theorem claim : Cert.Claim := ⟨Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel5.Gen.facts, Cert.Kernel5Ideal.Gen.facts, Cert.Reference5Ideal.Gen.facts,
  Cert.Kernel4.Gen.facts, Cert.Kernel4Ideal.Gen.facts, Cert.Reference4Ideal.Gen.facts,
  Cert.Pre_expert_in_range.Gen.facts, frame_kernel, frame_ideal, frame_reference, frame_kernel2, frame_ideal2, frame_reference2,
  frame_kernel3, frame_ideal3, frame_reference3, frame_kernel5, frame_ideal5, frame_reference5, frame_kernel4, frame_ideal4, frame_reference4,
  trivial, value, trivial, value2, trivial, value3, trivial, value5, trivial, value4⟩

end Cert.Proof

end
